-- ==== Defs.lean ====
def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdReferenceIdeal (m : (ℓ : Loc Cert.BwdReferenceIdeal.nD Cert.BwdReferenceIdeal.τ Cert.BwdReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ r.2.sem = fun _ => 0)

def quiescent_BwdReferenceIdeal [hBwdReferenceIdeal : Cert.BwdReferenceIdeal.Facts] : Prop :=
  ∀ (m : (ℓ : Loc Cert.BwdReferenceIdeal.nD Cert.BwdReferenceIdeal.τ Cert.BwdReferenceIdeal.sig) → Buf (Elt Ideal) ℓ) (g : Dev Cert.BwdReferenceIdeal.nD → PrngReg), Pre_BwdReferenceIdeal m →
    θ_run (Cert.BwdReferenceIdeal.defs (F := Ideal)) (onTc (τ := Cert.BwdReferenceIdeal.τ) (Cert.BwdReferenceIdeal.main (F := Ideal))) ⟨m, fun _ => 0, g⟩ (fun r => (∀ c : Dev Cert.BwdReferenceIdeal.nD,
      r.2.mem ((c.tc : Thread Cert.BwdReferenceIdeal.nD Cert.BwdReferenceIdeal.τ).loc Cert.BwdReferenceIdeal.main_arg0) = m ((c.tc : Thread Cert.BwdReferenceIdeal.nD Cert.BwdReferenceIdeal.τ).loc Cert.BwdReferenceIdeal.main_arg0)
      ∧ r.2.mem ((c.tc : Thread Cert.BwdReferenceIdeal.nD Cert.BwdReferenceIdeal.τ).loc Cert.BwdReferenceIdeal.main_arg1) = m ((c.tc : Thread Cert.BwdReferenceIdeal.nD Cert.BwdReferenceIdeal.τ).loc Cert.BwdReferenceIdeal.main_arg1)
      ∧ r.2.mem ((c.tc : Thread Cert.BwdReferenceIdeal.nD Cert.BwdReferenceIdeal.τ).loc Cert.BwdReferenceIdeal.main_arg2) = m ((c.tc : Thread Cert.BwdReferenceIdeal.nD Cert.BwdReferenceIdeal.τ).loc Cert.BwdReferenceIdeal.main_arg2)
      ∧ r.2.mem ((c.tc : Thread Cert.BwdReferenceIdeal.nD Cert.BwdReferenceIdeal.τ).loc Cert.BwdReferenceIdeal.main_arg3) = m ((c.tc : Thread Cert.BwdReferenceIdeal.nD Cert.BwdReferenceIdeal.τ).loc Cert.BwdReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def preserves_Bwd_BwdIdeal : Prop :=
  True

def algebraic_BwdIdeal_BwdReferenceIdeal [hBwdIdeal : Cert.BwdIdeal.Facts] [hBwdReferenceIdeal : Cert.BwdReferenceIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdReferenceIdeal.nD Cert.BwdReferenceIdeal.τ Cert.BwdReferenceIdeal.sig) → Buf (Elt Ideal) ℓ) (g' : Dev Cert.BwdReferenceIdeal.nD → PrngReg), Pre_BwdIdeal m →
    (∀ c : Dev Cert.BwdIdeal.nD,
      m' ((c.tc : Thread Cert.BwdReferenceIdeal.nD Cert.BwdReferenceIdeal.τ).loc Cert.BwdReferenceIdeal.main_arg0) = m ((c.tc : Thread Cert.BwdIdeal.nD Cert.BwdIdeal.τ).loc Cert.BwdIdeal.main_arg0)
      ∧ m' ((c.tc : Thread Cert.BwdReferenceIdeal.nD Cert.BwdReferenceIdeal.τ).loc Cert.BwdReferenceIdeal.main_arg1) = m ((c.tc : Thread Cert.BwdIdeal.nD Cert.BwdIdeal.τ).loc Cert.BwdIdeal.main_arg1)
      ∧ m' ((c.tc : Thread Cert.BwdReferenceIdeal.nD Cert.BwdReferenceIdeal.τ).loc Cert.BwdReferenceIdeal.main_arg2) = m ((c.tc : Thread Cert.BwdIdeal.nD Cert.BwdIdeal.τ).loc Cert.BwdIdeal.main_arg2)
      ∧ m' ((c.tc : Thread Cert.BwdReferenceIdeal.nD Cert.BwdReferenceIdeal.τ).loc Cert.BwdReferenceIdeal.main_arg3) = m ((c.tc : Thread Cert.BwdIdeal.nD Cert.BwdIdeal.τ).loc Cert.BwdIdeal.main_arg3)) →
    ∃ (v0 : (c : Dev Cert.BwdIdeal.nD) → Buf (Elt Ideal) ((c.tc : Thread Cert.BwdIdeal.nD Cert.BwdIdeal.τ).loc Cert.BwdIdeal.main_v0)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v0) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3))
      ∧ θ_run (Cert.BwdReferenceIdeal.defs (F := Ideal)) (onTc (τ := Cert.BwdReferenceIdeal.τ) (Cert.BwdReferenceIdeal.main (F := Ideal))) ⟨m', fun _ => 0, g'⟩ (fun r => ∀ c : Dev Cert.BwdReferenceIdeal.nD,
          r.2.mem ((c.tc : Thread Cert.BwdReferenceIdeal.nD Cert.BwdReferenceIdeal.τ).loc Cert.BwdReferenceIdeal.main_v36) = v0 c
          ∧ r.2.mem ((c.tc : Thread Cert.BwdReferenceIdeal.nD Cert.BwdReferenceIdeal.τ).loc Cert.BwdReferenceIdeal.main_arg0) = m' ((c.tc : Thread Cert.BwdReferenceIdeal.nD Cert.BwdReferenceIdeal.τ).loc Cert.BwdReferenceIdeal.main_arg0)
          ∧ r.2.mem ((c.tc : Thread Cert.BwdReferenceIdeal.nD Cert.BwdReferenceIdeal.τ).loc Cert.BwdReferenceIdeal.main_arg1) = m' ((c.tc : Thread Cert.BwdReferenceIdeal.nD Cert.BwdReferenceIdeal.τ).loc Cert.BwdReferenceIdeal.main_arg1)
          ∧ r.2.mem ((c.tc : Thread Cert.BwdReferenceIdeal.nD Cert.BwdReferenceIdeal.τ).loc Cert.BwdReferenceIdeal.main_arg2) = m' ((c.tc : Thread Cert.BwdReferenceIdeal.nD Cert.BwdReferenceIdeal.τ).loc Cert.BwdReferenceIdeal.main_arg2)
          ∧ r.2.mem ((c.tc : Thread Cert.BwdReferenceIdeal.nD Cert.BwdReferenceIdeal.τ).loc Cert.BwdReferenceIdeal.main_arg3) = m' ((c.tc : Thread Cert.BwdReferenceIdeal.nD Cert.BwdReferenceIdeal.τ).loc Cert.BwdReferenceIdeal.main_arg3))

def preserves_Fwd_FwdIdeal : Prop :=
  True

def algebraic_FwdIdeal_FwdReferenceIdeal [hFwdIdeal : Cert.FwdIdeal.Facts] [hFwdReferenceIdeal : Cert.FwdReferenceIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)
      ∧ m' ((c.tc : Thread Cert.FwdReferenceIdeal.nD Cert.FwdReferenceIdeal.τ).loc Cert.FwdReferenceIdeal.main_arg3) = m ((c.tc : Thread Cert.FwdIdeal.nD Cert.FwdIdeal.τ).loc Cert.FwdIdeal.main_arg3)
      ∧ m' ((c.tc : Thread Cert.FwdReferenceIdeal.nD Cert.FwdReferenceIdeal.τ).loc Cert.FwdReferenceIdeal.main_arg4) = m ((c.tc : Thread Cert.FwdIdeal.nD Cert.FwdIdeal.τ).loc Cert.FwdIdeal.main_arg4)
      ∧ m' ((c.tc : Thread Cert.FwdReferenceIdeal.nD Cert.FwdReferenceIdeal.τ).loc Cert.FwdReferenceIdeal.main_arg5) = m ((c.tc : Thread Cert.FwdIdeal.nD Cert.FwdIdeal.τ).loc Cert.FwdIdeal.main_arg5)) →
    ∃ (v0 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_1) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v1) = v0 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5))

def Claim : Prop :=
  ∃ (hBwd : Cert.Bwd.Facts) (hBwdIdeal : Cert.BwdIdeal.Facts) (hBwdReferenceIdeal : Cert.BwdReferenceIdeal.Facts) (hFwd : Cert.Fwd.Facts) (hFwdIdeal : Cert.FwdIdeal.Facts) (hFwdReferenceIdeal : Cert.FwdReferenceIdeal.Facts),
    quiescent_Bwd (hBwd := hBwd)
    ∧ quiescent_BwdIdeal (hBwdIdeal := hBwdIdeal)
    ∧ quiescent_BwdReferenceIdeal (hBwdReferenceIdeal := hBwdReferenceIdeal)
    ∧ quiescent_Fwd (hFwd := hFwd)
    ∧ quiescent_FwdIdeal (hFwdIdeal := hFwdIdeal)
    ∧ quiescent_FwdReferenceIdeal (hFwdReferenceIdeal := hFwdReferenceIdeal)
    ∧ preserves_Bwd_BwdIdeal
    ∧ algebraic_BwdIdeal_BwdReferenceIdeal (hBwdIdeal := hBwdIdeal) (hBwdReferenceIdeal := hBwdReferenceIdeal)
    ∧ preserves_Fwd_FwdIdeal
    ∧ algebraic_FwdIdeal_FwdReferenceIdeal (hFwdIdeal := hFwdIdeal) (hFwdReferenceIdeal := hFwdReferenceIdeal)
-- ==== Bwd.lean ====
abbrev S1730x2x1024x512 : Shape := ⟨4, ![1730, 2, 1024, 512]⟩
abbrev S49152x2048 : Shape := ⟨2, ![49152, 2048]⟩
abbrev S18432x128 : Shape := ⟨2, ![18432, 128]⟩
abbrev S18432x2048 : Shape := ⟨2, ![18432, 2048]⟩
abbrev S2x2x1024x512 : Shape := ⟨4, ![2, 2, 1024, 512]⟩
abbrev S1024x2048 : Shape := ⟨2, ![1024, 2048]⟩
abbrev S1024x128 : Shape := ⟨2, ![1024, 128]⟩
abbrev S1024x512 : Shape := ⟨2, ![1024, 512]⟩
abbrev S512x2048 : Shape := ⟨2, ![512, 2048]⟩
abbrev S16x128 : Shape := ⟨2, ![16, 128]⟩
abbrev S16x1 : Shape := ⟨2, ![16, 1]⟩
abbrev S1x1x16x128 : Shape := ⟨4, ![1, 1, 16, 128]⟩

abbrev nBuf : Space → Nat
  | .hbm => 5
  | .vmem => 16
  | .smem => 0
  | _ => 0

abbrev bufTy : (tb : Table) → Fin (tcTables nBuf tb) → BufTy
  | .hbm, ⟨0, _⟩ => ⟨S1730x2x1024x512, .f32⟩
  | .hbm, ⟨1, _⟩ => ⟨S49152x2048, .bf16⟩
  | .hbm, ⟨2, _⟩ => ⟨S18432x128, .f32⟩
  | .hbm, ⟨3, _⟩ => ⟨S18432x128, .f32⟩
  | .hbm, ⟨4, _⟩ => ⟨S18432x2048, .f32⟩
  | .local _ .vmem, ⟨0, _⟩ => ⟨S2x2x1024x512, .f32⟩
  | .local _ .vmem, ⟨1, _⟩ => ⟨S2x2x1024x512, .f32⟩
  | .local _ .vmem, ⟨2, _⟩ => ⟨S1024x2048, .bf16⟩
  | .local _ .vmem, ⟨3, _⟩ => ⟨S1024x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x2048, .f32⟩
  | .local _ .vmem, ⟨13, _⟩ => ⟨S1024x2048, .f32⟩
  | .local _ .vmem, ⟨14, _⟩ => ⟨S1024x512, .bf16⟩
  | .local _ .vmem, ⟨15, _⟩ => ⟨S1024x512, .bf16⟩
  | _, _ => ⟨S1730x2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![865], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let c0_i32_0 : BitVec 32 := 0#32
  let v2 : BitVec 1 := Scalar.cmpi .eq c48_i32 c0_i32_0
  let c1_i32_1 : BitVec 32 := 1#32
  let v3 : BitVec 32 := Scalar.select v2 c1_i32_1 c48_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_4 (i : grid0.Coords) : Fin 2 → Nat :=
  let arg0 : BitVec 32 := BitVec.ofNat 32 (i 0).val
  let c48_i32 : BitVec 32 := 48#32
  let v0 : BitVec 32 := Scalar.divsi arg0 c48_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c48_i32 c0_i32_1
  let v7 : BitVec 32 := Scalar.extui v6
  let c0_i32_2 : BitVec 32 := 0#32
  let v8 : BitVec 1 := Scalar.cmpi .slt c48_i32 c0_i32_2
  let v9 : BitVec 32 := Scalar.extui v8
  let v10 : BitVec 32 := Scalar.subi v7 v9
  let v11 : BitVec 1 := Scalar.cmpi .ne v5 v10
  let v12 : BitVec 32 := Scalar.remsi arg0 c48_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.minsi v16 c17_i32
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let c48_i32 : BitVec 32 := 48#32
  let v0 : BitVec 32 := Scalar.divsi arg0 c48_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c48_i32 c0_i32_1
  let v7 : BitVec 32 := Scalar.extui v6
  let c0_i32_2 : BitVec 32 := 0#32
  let v8 : BitVec 1 := Scalar.cmpi .slt c48_i32 c0_i32_2
  let v9 : BitVec 32 := Scalar.extui v8
  let v10 : BitVec 32 := Scalar.subi v7 v9
  let v11 : BitVec 1 := Scalar.cmpi .ne v5 v10
  let v12 : BitVec 32 := Scalar.remsi arg0 c48_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.minsi v16 c17_i32
  let c0_i32_4 : BitVec 32 := 0#32
  let c0_i32_5 : BitVec 32 := 0#32
  ![v17.toNat, c0_i32_4.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S2x2x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BwdReferenceIdeal.lean ====
abbrev S1730x2x1024x512 : Shape := ⟨4, ![1730, 2, 1024, 512]⟩
abbrev S49152x2048 : Shape := ⟨2, ![49152, 2048]⟩
abbrev S18432x128 : Shape := ⟨2, ![18432, 128]⟩
abbrev S1728x2x1024x512 : Shape := ⟨4, ![1728, 2, 1024, 512]⟩
abbrev S18x96x2x1024x512 : Shape := ⟨5, ![18, 96, 2, 1024, 512]⟩
abbrev S2x18x1024x96x512 : Shape := ⟨5, ![2, 18, 1024, 96, 512]⟩
abbrev S2x18432x49152 : Shape := ⟨3, ![2, 18432, 49152]⟩
abbrev S1x18432x49152 : Shape := ⟨3, ![1, 18432, 49152]⟩
abbrev S18432x49152 : Shape := ⟨2, ![18432, 49152]⟩
abbrev S18432x1 : Shape := ⟨2, ![18432, 1]⟩
abbrev S18432 : Shape := ⟨1, ![18432]⟩
abbrev S49152 : Shape := ⟨1, ![49152]⟩
abbrev S1x49152 : Shape := ⟨2, ![1, 49152]⟩
abbrev S_ : Shape := ⟨0, ![]⟩
abbrev S18432x2048 : Shape := ⟨2, ![18432, 2048]⟩

abbrev nBuf : Space → Nat
  | .hbm => 46
  | .vmem => 0
  | .smem => 0
  | _ => 0

abbrev bufTy : (tb : Table) → Fin (tcTables nBuf tb) → BufTy
  | .hbm, ⟨0, _⟩ => ⟨S1730x2x1024x512, .f32⟩
  | .hbm, ⟨1, _⟩ => ⟨S49152x2048, .bf16⟩
  | .hbm, ⟨2, _⟩ => ⟨S18432x128, .f32⟩
  | .hbm, ⟨3, _⟩ => ⟨S18432x128, .f32⟩
  | .hbm, ⟨4, _⟩ => ⟨S1728x2x1024x512, .f32⟩
  | .hbm, ⟨5, _⟩ => ⟨S18x96x2x1024x512, .f32⟩
  | .hbm, ⟨6, _⟩ => ⟨S2x18x1024x96x512, .f32⟩
  | .hbm, ⟨7, _⟩ => ⟨S2x18432x49152, .f32⟩
  | .hbm, ⟨8, _⟩ => ⟨S1x18432x49152, .f32⟩
  | .hbm, ⟨9, _⟩ => ⟨S18432x49152, .f32⟩
  | .hbm, ⟨10, _⟩ => ⟨S1x18432x49152, .f32⟩
  | .hbm, ⟨11, _⟩ => ⟨S18432x49152, .f32⟩
  | .hbm, ⟨12, _⟩ => ⟨S18432x1, .f32⟩
  | .hbm, ⟨13, _⟩ => ⟨S18432, .f32⟩
  | .hbm, ⟨14, _⟩ => ⟨S18432x1, .f32⟩
  | .hbm, ⟨15, _⟩ => ⟨S18432, .f32⟩
  | .hbm, ⟨16, _⟩ => ⟨S18432x1, .f32⟩
  | .hbm, ⟨17, _⟩ => ⟨S18432, .f32⟩
  | .hbm, ⟨18, _⟩ => ⟨S18432x1, .f32⟩
  | .hbm, ⟨19, _⟩ => ⟨S18432, .f32⟩
  | .hbm, ⟨20, _⟩ => ⟨S18432x1, .f32⟩
  | .hbm, ⟨21, _⟩ => ⟨S18432x49152, .f32⟩
  | .hbm, ⟨22, _⟩ => ⟨S18432x49152, .f32⟩
  | .hbm, ⟨23, _⟩ => ⟨S18432x49152, .f32⟩
  | .hbm, ⟨24, _⟩ => ⟨S18432x1, .f32⟩
  | .hbm, ⟨25, _⟩ => ⟨S49152, .f32⟩
  | .hbm, ⟨26, _⟩ => ⟨S1x49152, .f32⟩
  | .hbm, ⟨27, _⟩ => ⟨S18432x49152, .f32⟩
  | .hbm, ⟨28, _⟩ => ⟨S18432x49152, .f32⟩
  | .hbm, ⟨29, _⟩ => ⟨S18432x49152, .i1⟩
  | .hbm, ⟨30, _⟩ => ⟨S18432x1, .f32⟩
  | .hbm, ⟨31, _⟩ => ⟨S_, .f32⟩
  | .hbm, ⟨32, _⟩ => ⟨S18432x49152, .f32⟩
  | .hbm, ⟨33, _⟩ => ⟨S18432x49152, .f32⟩
  | .hbm, ⟨34, _⟩ => ⟨S18432x49152, .f32⟩
  | .hbm, ⟨35, _⟩ => ⟨S18432x49152, .f32⟩
  | .hbm, ⟨36, _⟩ => ⟨S18432x49152, .f32⟩
  | .hbm, ⟨37, _⟩ => ⟨S18432x1, .f32⟩
  | .hbm, ⟨38, _⟩ => ⟨S_, .f32⟩
  | .hbm, ⟨39, _⟩ => ⟨S_, .f32⟩
  | .hbm, ⟨40, _⟩ => ⟨S18432x49152, .f32⟩
  | .hbm, ⟨41, _⟩ => ⟨S18432x49152, .f32⟩
  | .hbm, ⟨42, _⟩ => ⟨S18432x49152, .f32⟩
  | .hbm, ⟨43, _⟩ => ⟨S18432x49152, .f32⟩
  | .hbm, ⟨44, _⟩ => ⟨S18432x49152, .bf16⟩
  | .hbm, ⟨45, _⟩ => ⟨S18432x2048, .f32⟩
  | _, _ => ⟨S1730x2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Fwd.lean ====
abbrev S18432x2048 : Shape := ⟨2, ![18432, 2048]⟩
abbrev S18432x128 : Shape := ⟨2, ![18432, 128]⟩
abbrev S49152x2048 : Shape := ⟨2, ![49152, 2048]⟩
abbrev S96x1x512 : Shape := ⟨3, ![96, 1, 512]⟩
abbrev S1730x2x1024x512 : Shape := ⟨4, ![1730, 2, 1024, 512]⟩
abbrev S1024x2048 : Shape := ⟨2, ![1024, 2048]⟩
abbrev S1024x128 : Shape := ⟨2, ![1024, 128]⟩
abbrev S1x1x512 : Shape := ⟨3, ![1, 1, 512]⟩
abbrev S2x2x1024x512 : Shape := ⟨4, ![2, 2, 1024, 512]⟩
abbrev S1024x512 : Shape := ⟨2, ![1024, 512]⟩
abbrev S7x1024x128 : Shape := ⟨3, ![7, 1024, 128]⟩
abbrev S512x2048 : Shape := ⟨2, ![512, 2048]⟩
abbrev S16x128 : Shape := ⟨2, ![16, 128]⟩
abbrev S16x1 : Shape := ⟨2, ![16, 1]⟩
abbrev S1x16x128 : Shape := ⟨3, ![1, 16, 128]⟩
abbrev S1x1x128 : Shape := ⟨3, ![1, 1, 128]⟩
abbrev S1x128 : Shape := ⟨2, ![1, 128]⟩
abbrev S1x1x16x128 : Shape := ⟨4, ![1, 1, 16, 128]⟩
abbrev S1x32x128 : Shape := ⟨3, ![1, 32, 128]⟩
abbrev S32x128 : Shape := ⟨2, ![32, 128]⟩
abbrev S32 : Shape := ⟨1, ![32]⟩
abbrev S32x1 : Shape := ⟨2, ![32, 1]⟩

abbrev nBuf : Space → Nat
  | .hbm => 8
  | .vmem => 25
  | .smem => 0
  | _ => 0

abbrev bufTy : (tb : Table) → Fin (tcTables nBuf tb) → BufTy
  | .hbm, ⟨0, _⟩ => ⟨S18432x2048, .fp8e4m3⟩
  | .hbm, ⟨1, _⟩ => ⟨S18432x2048, .bf16⟩
  | .hbm, ⟨2, _⟩ => ⟨S18432x128, .f32⟩
  | .hbm, ⟨3, _⟩ => ⟨S49152x2048, .fp8e4m3⟩
  | .hbm, ⟨4, _⟩ => ⟨S49152x2048, .bf16⟩
  | .hbm, ⟨5, _⟩ => ⟨S96x1x512, .f32⟩
  | .hbm, ⟨6, _⟩ => ⟨S1730x2x1024x512, .f32⟩
  | .hbm, ⟨7, _⟩ => ⟨S18432x128, .f32⟩
  | .local _ .vmem, ⟨0, _⟩ => ⟨S1024x2048, .fp8e4m3⟩
  | .local _ .vmem, ⟨1, _⟩ => ⟨S1024x2048, .fp8e4m3⟩
  | .local _ .vmem, ⟨2, _⟩ => ⟨S1024x2048, .bf16⟩
  | .local _ .vmem, ⟨3, _⟩ => ⟨S1024x2048, .bf16⟩
  | .local _ .vmem, ⟨4, _⟩ => ⟨S1024x128, .f32⟩
  | .local _ .vmem, ⟨5, _⟩ => ⟨S1024x128, .f32⟩
  | .local _ .vmem, ⟨6, _⟩ => ⟨S1024x2048, .fp8e4m3⟩
  | .local _ .vmem, ⟨7, _⟩ => ⟨S1024x2048, .fp8e4m3⟩
  | .local _ .vmem, ⟨8, _⟩ => ⟨S1024x2048, .bf16⟩
  | .local _ .vmem, ⟨9, _⟩ => ⟨S1024x2048, .bf16⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S2x2x1024x512, .f32⟩
  | .local _ .vmem, ⟨15, _⟩ => ⟨S2x2x1024x512, .f32⟩
  | .local _ .vmem, ⟨16, _⟩ => ⟨S1024x128, .f32⟩
  | .local _ .vmem, ⟨17, _⟩ => ⟨S1024x128, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S7x1024x128, .f32⟩
  | .local _ .vmem, ⟨23, _⟩ => ⟨S7x1024x128, .f32⟩
  | .local _ .vmem, ⟨24, _⟩ => ⟨S1024x128, .f32⟩
  | _, _ => ⟨S18432x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![865], ![false]⟩

def k0_cond2 (i : grid0.Coords) : BitVec 1 :=
  let arg0 : BitVec 32 := BitVec.ofNat 32 (i 0).val
  let c48_i32 : BitVec 32 := 48#32
  let v0 : BitVec 32 := Scalar.remsi arg0 c48_i32
  let c0_i32 : BitVec 32 := 0#32
  let v1 : BitVec 1 := Scalar.cmpi .eq v0 c0_i32
  let v24361 : BitVec 32 := Scalar.extui v1
  let c0_i32_15258 : BitVec 32 := 0#32
  let v24362 : BitVec 1 := Scalar.cmpi .ne v24361 c0_i32_15258
  v24362

@[reducible] def k0_t1_loop : Scf.Loop 32 :=
  let c0_i32_15259 : BitVec 32 := 0#32
  let c32_i32 : BitVec 32 := 32#32
  let v24363 : BitVec 32 := Scalar.addi c0_i32_15259 c32_i32
  let c1_i32_15260 : BitVec 32 := 1#32
  ⟨c0_i32_15259, v24363, c1_i32_15260⟩
def k0_mult1 (k0_t1 : Fin k0_t1_loop.trips) : BitVec 32 :=
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  v24370
def k0_off1 (k0_t1 : Fin k0_t1_loop.trips) : Fin 3 → Nat :=
  let c0_15269 : Index := 0#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24372 : Index := Scalar.indexCast v24371
  let c0_15270 : Index := 0#32
  ![0, v24372.toNat, 0]
def k0_off2 (k0_t1 : Fin k0_t1_loop.trips) : Fin 3 → Nat :=
  let c2_15271 : Index := 2#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24375 : Index := Scalar.indexCast v24371
  let c0_15272 : Index := 0#32
  ![2, v24375.toNat, 0]
def k0_off3 (k0_t1 : Fin k0_t1_loop.trips) : Fin 3 → Nat :=
  let c1_15275 : Index := 1#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24388 : Index := Scalar.indexCast v24371
  let c0_15276 : Index := 0#32
  ![1, v24388.toNat, 0]
def k0_off4 (k0_t1 : Fin k0_t1_loop.trips) : Fin 3 → Nat :=
  let c3_15277 : Index := 3#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24391 : Index := Scalar.indexCast v24371
  let c0_15278 : Index := 0#32
  ![3, v24391.toNat, 0]
def k0_off5 (k0_t1 : Fin k0_t1_loop.trips) : Fin 3 → Nat :=
  let c4_15281 : Index := 4#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24404 : Index := Scalar.indexCast v24371
  let c0_15282 : Index := 0#32
  ![4, v24404.toNat, 0]
def k0_off6 (k0_t1 : Fin k0_t1_loop.trips) : Fin 3 → Nat :=
  let c5_15284 : Index := 5#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24411 : Index := Scalar.indexCast v24371
  let c0_15285 : Index := 0#32
  ![5, v24411.toNat, 0]
def k0_off7 (k0_t1 : Fin k0_t1_loop.trips) : Fin 3 → Nat :=
  let c6_15287 : Index := 6#32
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24416 : Index := Scalar.indexCast v24371
  let c0_15288 : Index := 0#32
  ![6, v24416.toNat, 0]
def k0_off8 (k0_t1 : Fin k0_t1_loop.trips) : Fin 2 → Nat :=
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24421 : Index := Scalar.indexCast v24371
  let c2_15290 : Index := 2#32
  ![v24421.toNat, 2]
def k0_off9 (k0_t1 : Fin k0_t1_loop.trips) : Fin 2 → Nat :=
  let c0_i32_15267 : BitVec 32 := 0#32
  let c0_i32_15259 : BitVec 32 := 0#32
  let c1_i32_15260 : BitVec 32 := 1#32
  let arg17 : BitVec 32 := Scf.iv c0_i32_15259 c1_i32_15260 k0_t1
  let c1_i32_15266 : BitVec 32 := 1#32
  let v24368 : BitVec 32 := Scalar.muli arg17 c1_i32_15266
  let v24369 : BitVec 32 := Scalar.addi c0_i32_15267 v24368
  let c32_i32_15268 : BitVec 32 := 32#32
  let v24370 : BitVec 32 := Scalar.muli v24369 c32_i32_15268
  let v24371 : BitVec 32 := v24370
  let v24457 : Index := Scalar.indexCast v24371
  let c0_15295 : Index := 0#32
  ![v24457.toNat, 0]
def cc0_transform_0 (i : grid0.Coords) : Fin 2 → Nat :=
  let arg0 : BitVec 32 := BitVec.ofNat 32 (i 0).val
  let c48_i32 : BitVec 32 := 48#32
  let v0 : BitVec 32 := Scalar.divsi arg0 c48_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c48_i32 c0_i32_1
  let v7 : BitVec 32 := Scalar.extui v6
  let c0_i32_2 : BitVec 32 := 0#32
  let v8 : BitVec 1 := Scalar.cmpi .slt c48_i32 c0_i32_2
  let v9 : BitVec 32 := Scalar.extui v8
  let v10 : BitVec 32 := Scalar.subi v7 v9
  let v11 : BitVec 1 := Scalar.cmpi .ne v5 v10
  let v12 : BitVec 32 := Scalar.remsi arg0 c48_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.minsi v16 c17_i32
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c48_i32 : BitVec 32 := 48#32
  let v0 : BitVec 32 := Scalar.divsi arg0 c48_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c48_i32 c0_i32_1
  let v7 : BitVec 32 := Scalar.extui v6
  let c0_i32_2 : BitVec 32 := 0#32
  let v8 : BitVec 1 := Scalar.cmpi .slt c48_i32 c0_i32_2
  let v9 : BitVec 32 := Scalar.extui v8
  let v10 : BitVec 32 := Scalar.subi v7 v9
  let v11 : BitVec 1 := Scalar.cmpi .ne v5 v10
  let v12 : BitVec 32 := Scalar.remsi arg0 c48_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.minsi v16 c17_i32
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c48_i32 : BitVec 32 := 48#32
  let v0 : BitVec 32 := Scalar.divsi arg0 c48_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c48_i32 c0_i32_1
  let v7 : BitVec 32 := Scalar.extui v6
  let c0_i32_2 : BitVec 32 := 0#32
  let v8 : BitVec 1 := Scalar.cmpi .slt c48_i32 c0_i32_2
  let v9 : BitVec 32 := Scalar.extui v8
  let v10 : BitVec 32 := Scalar.subi v7 v9
  let v11 : BitVec 1 := Scalar.cmpi .ne v5 v10
  let v12 : BitVec 32 := Scalar.remsi arg0 c48_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.minsi v16 c17_i32
  let c0_i32_4 : BitVec 32 := 0#32
  let c0_i32_5 : BitVec 32 := 0#32
  ![v17.toNat, c0_i32_4.toNat]

def cc0_transform_3 (i : grid0.Coords) : Fin 2 → Nat :=
  let arg0 : BitVec 32 := BitVec.ofNat 32 (i 0).val
  let c48_i32 : BitVec 32 := 48#32
  let c0_i32 : BitVec 32 := 0#32
  let v0 : BitVec 1 := Scalar.cmpi .eq c48_i32 c0_i32
  let c1_i32 : BitVec 32 := 1#32
  let v1 : BitVec 32 := Scalar.select v0 c1_i32 c48_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c48_i32 : BitVec 32 := 48#32
  let c0_i32 : BitVec 32 := 0#32
  let v0 : BitVec 1 := Scalar.cmpi .eq c48_i32 c0_i32
  let c1_i32 : BitVec 32 := 1#32
  let v1 : BitVec 32 := Scalar.select v0 c1_i32 c48_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c48_i32 : BitVec 32 := 48#32
  let c0_i32 : BitVec 32 := 0#32
  let v0 : BitVec 1 := Scalar.cmpi .eq c48_i32 c0_i32
  let c1_i32 : BitVec 32 := 1#32
  let v1 : BitVec 32 := Scalar.select v0 c1_i32 c48_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.muli c2_i32 v9
  let c0_i32_3 : BitVec 32 := 0#32
  let c0_i32_4 : BitVec 32 := 0#32
  let c0_i32_5 : BitVec 32 := 0#32
  ![v10.toNat, c0_i32_3.toNat, c0_i32_4.toNat]

def cc0_transform_6 (i : grid0.Coords) : Fin 3 → Nat :=
  let arg0 : BitVec 32 := BitVec.ofNat 32 (i 0).val
  let c48_i32 : BitVec 32 := 48#32
  let v0 : BitVec 32 := Scalar.addi arg0 c48_i32
  let c1_i32 : BitVec 32 := 1#32
  let v1 : BitVec 32 := Scalar.subi v0 c1_i32
  let c48_i32_0 : BitVec 32 := 48#32
  let c0_i32 : BitVec 32 := 0#32
  let v2 : BitVec 1 := Scalar.cmpi .eq c48_i32_0 c0_i32
  let c1_i32_1 : BitVec 32 := 1#32
  let v3 : BitVec 32 := Scalar.select v2 c1_i32_1 c48_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32 : BitVec 32 := 2#32
  let v12 : BitVec 32 := Scalar.muli c2_i32 v11
  let c1_i32_5 : BitVec 32 := 1#32
  let v13 : BitVec 32 := Scalar.addi v12 c1_i32_5
  let c0_i32_6 : BitVec 32 := 0#32
  let c0_i32_7 : BitVec 32 := 0#32
  let c0_i32_8 : BitVec 32 := 0#32
  ![v13.toNat, c0_i32_6.toNat, c0_i32_7.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c48_i32 : BitVec 32 := 48#32
  let v2 : BitVec 32 := Scalar.divsi v1 c48_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c48_i32 c0_i32_2
  let v9 : BitVec 32 := Scalar.extui v8
  let c0_i32_3 : BitVec 32 := 0#32
  let v10 : BitVec 1 := Scalar.cmpi .slt c48_i32 c0_i32_3
  let v11 : BitVec 32 := Scalar.extui v10
  let v12 : BitVec 32 := Scalar.subi v9 v11
  let v13 : BitVec 1 := Scalar.cmpi .ne v7 v12
  let v14 : BitVec 32 := Scalar.remsi v1 c48_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdReferenceIdeal.lean ====
abbrev S18432x2048 : Shape := ⟨2, ![18432, 2048]⟩
abbrev S18432x128 : Shape := ⟨2, ![18432, 128]⟩
abbrev S49152x2048 : Shape := ⟨2, ![49152, 2048]⟩
abbrev S96x1x512 : Shape := ⟨3, ![96, 1, 512]⟩
abbrev S1x49152 : Shape := ⟨2, ![1, 49152]⟩
abbrev S18432x1 : Shape := ⟨2, ![18432, 1]⟩
abbrev S18432x49152 : Shape := ⟨2, ![18432, 49152]⟩
abbrev S18432 : Shape := ⟨1, ![18432]⟩

abbrev nBuf : Space → Nat
  | .hbm => 8
  | .vmem => 7
  | .smem => 0
  | _ => 0

abbrev bufTy : (tb : Table) → Fin (tcTables nBuf tb) → BufTy
  | .hbm, ⟨0, _⟩ => ⟨S18432x2048, .fp8e4m3⟩
  | .hbm, ⟨1, _⟩ => ⟨S18432x2048, .bf16⟩
  | .hbm, ⟨2, _⟩ => ⟨S18432x128, .f32⟩
  | .hbm, ⟨3, _⟩ => ⟨S49152x2048, .fp8e4m3⟩
  | .hbm, ⟨4, _⟩ => ⟨S49152x2048, .bf16⟩
  | .hbm, ⟨5, _⟩ => ⟨S96x1x512, .f32⟩
  | .hbm, ⟨6, _⟩ => ⟨S1x49152, .f32⟩
  | .hbm, ⟨7, _⟩ => ⟨S18432x128, .f32⟩
  | .local _ .vmem, ⟨0, _⟩ => ⟨S18432x2048, .fp8e4m3⟩
  | .local _ .vmem, ⟨1, _⟩ => ⟨S18432x2048, .bf16⟩
  | .local _ .vmem, ⟨2, _⟩ => ⟨S18432x128, .f32⟩
  | .local _ .vmem, ⟨3, _⟩ => ⟨S49152x2048, .fp8e4m3⟩
  | .local _ .vmem, ⟨4, _⟩ => ⟨S49152x2048, .bf16⟩
  | .local _ .vmem, ⟨5, _⟩ => ⟨S1x49152, .f32⟩
  | .local _ .vmem, ⟨6, _⟩ => ⟨S18432x128, .f32⟩
  | _, _ => ⟨S18432x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S18432x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S49152x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S49152x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x49152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BwdRuns.lean ====
/- What the hand proof of `BwdIdeal` states its runs over: the body's two branch conditions in closed form over the points, the staging and scratch
   memrefs, and the region's invariant with the scratch buffers as memrefs. -/
module

public import proofs.«01_k».proof.Proof.Gen.BwdIdeal.Skeleton
public import proofs.«01_k».proof.Proof.Gen.BwdIdeal.Frame

@[expose] public section

set_option maxRecDepth 16384

noncomputable section

namespace Cert.BwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdIdeal Cert.BwdIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 865 = 0 :=
  (fun t => by
    have ht : t.val < 865 := Nat.lt_of_lt_of_eq t.isLt N_0
    have e0 : (grid0.coords t 0).val = t.val / 1 % 865 := Pipeline.Grid.coords_val t 0 (by decide) rfl
    simp only [cond0_0, e0]
    word_cmp
   : ∀ t : Fin grid0.N, cond0_0 (grid0.coords t) ↔ t.val % 865 = 0)

/-- The condition of the body's `scf.if` 1 (`k0_h2`), from the grid coordinates (the skeleton's scalar
    chain substituted). -/
abbrev cond0_1 (i : grid0.Coords) : Prop := (Scalar.cmpi .ne (Scalar.extui (Scalar.cmpi .eq (Scalar.remsi (Scalar.maxsi (Scalar.subi (BitVec.ofNat 32 (i 0).val) 1#32) 0#32) 48#32) 0#32)) 0#32) = 1#1
/-- It holds at points 0, 1, 49, 97, 145, 193, 241, 289, 337, 385, 433, 481, 529, 577, 625, 673, 721, 769 and 817 only — decided over the grid. -/
theorem hcond0_1 : ∀ t : Fin cfg0.N, cond0_1 (grid0.coords t) ↔ (t.val % 865 = 0 ∨ t.val % 865 = 1 ∨ t.val % 865 = 49 ∨ t.val % 865 = 97 ∨ t.val % 865 = 145 ∨ t.val % 865 = 193 ∨ t.val % 865 = 241 ∨ t.val % 865 = 289 ∨ t.val % 865 = 337 ∨ t.val % 865 = 385 ∨ t.val % 865 = 433 ∨ t.val % 865 = 481 ∨ t.val % 865 = 529 ∨ t.val % 865 = 577 ∨ t.val % 865 = 625 ∨ t.val % 865 = 673 ∨ t.val % 865 = 721 ∨ t.val % 865 = 769 ∨ t.val % 865 = 817) :=
  (by decide +kernel : ∀ t : Fin grid0.N, cond0_1 (grid0.coords t) ↔ (t.val % 865 = 0 ∨ t.val % 865 = 1 ∨ t.val % 865 = 49 ∨ t.val % 865 = 97 ∨ t.val % 865 = 145 ∨ t.val % 865 = 193 ∨ t.val % 865 = 241 ∨ t.val % 865 = 289 ∨ t.val % 865 = 337 ∨ t.val % 865 = 385 ∨ t.val % 865 = 433 ∨ t.val % 865 = 481 ∨ t.val % 865 = 529 ∨ t.val % 865 = 577 ∨ t.val % 865 = 625 ∨ t.val % 865 = 673 ∨ t.val % 865 = 721 ∨ t.val % 865 = 769 ∨ t.val % 865 = 817))

/-! ## The kernel body on any staging memrefs: a subtype the run finds -/

/-- Each window's current staging memref at point `t`, spelled as the pipeline passes it (`bodyAt0`), and its wholeness. -/
abbrev ms0_0 (t : Fin cfg0.N) : Memref sig .tc .vmem S2x2x1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.BwdIdeal.Hand

end
-- ==== Proof.BwdTile.lean ====
/- One entry of the gradient tile that `BwdIdeal`'s body stores, and the whole tile, as plain functions of the staged blocks. -/
module

public import proofs.«01_k».proof.Proof.Gen.BwdIdeal.Skeleton
public import Idealize.ShloMosaic.Lib.Pipeline.ReadBack
public import Idealize.ShloMosaic.Lib.Tactic
public import Idealize.ShloMosaic.Lib.Pointwise

@[expose] public section

set_option maxRecDepth 16384

noncomputable section

namespace Cert.BwdIdeal.Hand

open Idealize.ShloMosaic Idealize.ShloMosaic.TcCoe
open Cert.BwdIdeal Cert.BwdIdeal.Gen

variable {F : FTy → Type} [FloatOps F]

/-- The `f32` constant the body adds to the lane number in group `j` of 128 columns: the words of 0, 128, 256 and 384. -/
def groupBits : ℕ → BitVec 32
  | 0 => 0x00000000#32
  | 1 => 0x43000000#32
  | 2 => 0x43800000#32
  | _ => 0x43C00000#32

/-- One entry of the tile: `exp (zp - lse) * (coef + 0.2 * zd) - (if tgt - base = column then adv else 0)`, rounded to bf16. -/
def dzAt (base col tgt adv lse coef zp zd : F .f32) : F .bf16 :=
  FloatOps.truncf .bf16 bitsLt_bf16_f32
    (FloatOps.subf
      (FloatOps.mulf (FloatOps.exp (FloatOps.subf zp lse)) (FloatOps.addf coef (FloatOps.mulf (Scalar.ofBits .f32 0x3E4CCCCD#32) zd)))
      (Scalar.select (FloatOps.cmpf .oeq (FloatOps.subf tgt base) col) adv (Scalar.ofBits .f32 0x00000000#32)))

/-- The column number as the body computes it: the lane of the group, as a float, plus the group's constant. -/
def colAt (n : ℕ) : F .f32 :=
  FloatOps.addf (FloatOps.sitofp .f32 (BitVec.ofNat 32 (n % 128))) (Scalar.ofBits .f32 (groupBits (n / 128)))

/-- The tile a slot of the staged pair of score tiles gives. -/
def dzTile (base : F .f32) (slot : Fin 2) (z : Vec F S2x2x1024x512 .f32) (rec fin : Vec F S1024x128 .f32) : Vec F S1024x512 .bf16 :=
  fun y => dzAt base (colAt (y 1).val) (rec (ix2 (y 0) (1 : Fin 128))) (rec (ix2 (y 0) (2 : Fin 128))) (fin (ix2 (y 0) (3 : Fin 128)))
    (fin (ix2 (y 0) (4 : Fin 128))) (z (ix4 slot (0 : Fin 2) (y 0) (y 1))) (z (ix4 slot (1 : Fin 2) (y 0) (y 1)))

/-- One stored piece: 16 rows by 128 columns, by the body's vector operations. -/
def dzPiece (base : F .f32) (k : BitVec 32) (rec fin : Vec F S16x128 .f32) (zp zd : Vec F S1x1x16x128 .f32) : FVec F S16x128 .bf16 :=
  shapeCast S16x128 (truncf .bf16 (subf
    (mulf (exp (subf (shapeCast S16x128 zp shapeCasts_S1x1x16x128_S16x128)
        (broadcastTo S16x128 (shapeCast S16x1 (extractStridedSlice S16x1 ![0, 3] fin slices_S16x128_o0_3_S16x1) shapeCasts_S16x1_S16x1) broadcasts_S16x1_S16x128)))
      (addf (broadcastTo S16x128 (shapeCast S16x1 (extractStridedSlice S16x1 ![0, 4] fin slices_S16x128_o0_4_S16x1) shapeCasts_S16x1_S16x1) broadcasts_S16x1_S16x128)
        (mulf (broadcast S16x128 (Scalar.ofBits .f32 0x3E4CCCCD#32)) (shapeCast S16x128 zd shapeCasts_S1x1x16x128_S16x128))))
    (select (cmpf .oeq
        (subf (broadcastTo S16x128 (shapeCast S16x1 (extractStridedSlice S16x1 ![0, 1] rec slices_S16x128_o0_1_S16x1) shapeCasts_S16x1_S16x1) broadcasts_S16x1_S16x128)
          (broadcast S16x128 base))
        (addf (k0_pay7 (F := F)) (broadcast S16x128 (Scalar.ofBits .f32 k))))
      (broadcastTo S16x128 (shapeCast S16x1 (extractStridedSlice S16x1 ![0, 2] rec slices_S16x128_o0_2_S16x1) shapeCasts_S16x1_S16x1) broadcasts_S16x1_S16x128)
      (broadcast S16x128 (Scalar.ofBits .f32 0x00000000#32)))) bitsLt_bf16_f32) shapeCasts_S16x128_S16x128

/-- A piece at an index: one entry of the tile. -/
theorem dzPiece_apply (base : F .f32) (k : BitVec 32) (rec fin : Vec F S16x128 .f32) (zp zd : Vec F S1x1x16x128 .f32) (r : Fin 16) (l : Fin 128) :
    dzPiece base k rec fin zp zd (ix2 r l)
      = dzAt base (FloatOps.addf (FloatOps.sitofp .f32 (BitVec.ofNat 32 l.val)) (Scalar.ofBits .f32 k)) (rec (ix2 r (1 : Fin 128))) (rec (ix2 r (2 : Fin 128)))
          (fin (ix2 r (3 : Fin 128))) (fin (ix2 r (4 : Fin 128))) (zp (ix4 (0 : Fin 1) (0 : Fin 1) r l)) (zd (ix4 (0 : Fin 1) (0 : Fin 1) r l)) := by
  unfold dzPiece dzAt
  pointwise [k0_pay7]

/-- A column `p + l` of the tile, `p` a multiple of 128 and `l` a lane: the group's constant is `p`'s. -/
theorem colAt_add (p l : ℕ) (hp : p % 128 = 0) (hl : l < 128) :
    colAt (F := F) (p + l) = FloatOps.addf (FloatOps.sitofp .f32 (BitVec.ofNat 32 l)) (Scalar.ofBits .f32 (groupBits (p / 128))) := by
  unfold colAt
  rw [show (p + l) % 128 = l by omega, show (p + l) / 128 = p / 128 by omega]

/-- A piece the body stores at row `o` and column `p` is the block of the tile there. -/
theorem dzPiece_eq (base : F .f32) (slot : Fin 2) (z : Vec F S2x2x1024x512 .f32) (rec fin : Vec F S1024x128 .f32)
    {az : Memref sig .tc .vmem S2x2x1024x512 .f32} (hz : az.IsWhole) {ar : Memref sig .tc .vmem S1024x128 .f32} (hr : ar.IsWhole)
    {af : Memref sig .tc .vmem S1024x128 .f32} (hf : af.IsWhole) (o p : ℕ)
    (i0 : ∀ a, (![o, p] : Fin 2 → ℕ) a + S16x128.size a ≤ S1024x512.size a)
    (i1 : ∀ a, (![o, 0] : Fin 2 → ℕ) a + S16x128.size a ≤ S1024x128.size a)
    (i2 : ∀ a, (![slot.val, 0, o, p] : Fin 4 → ℕ) a + S1x1x16x128.size a ≤ S2x2x1024x512.size a)
    (i3 : ∀ a, (![slot.val, 1, o, p] : Fin 4 → ℕ) a + S1x1x16x128.size a ≤ S2x2x1024x512.size a)
    (hp : p % 128 = 0) (x : (Rect.unit (s := S1024x512) ![o, p] S16x128.size i0).shape.Idx) :
    dzPiece base (groupBits (p / 128))
        (View.readAt (Elt F) ar.view (Rect.unit (s := S1024x128) ![o, 0] S16x128.size i1).toLoadRect (hr.unread rec))
        (View.readAt (Elt F) af.view (Rect.unit (s := S1024x128) ![o, 0] S16x128.size i1).toLoadRect (hf.unread fin))
        (View.readAt (Elt F) az.view (Rect.unit (s := S2x2x1024x512) ![slot.val, 0, o, p] S1x1x16x128.size i2).toLoadRect (hz.unread z))
        (View.readAt (Elt F) az.view (Rect.unit (s := S2x2x1024x512) ![slot.val, 1, o, p] S1x1x16x128.size i3).toLoadRect (hz.unread z)) x
      = dzTile base slot z rec fin ((Rect.unit (s := S1024x512) ![o, p] S16x128.size i0).emb x) := by
  obtain ⟨r, l, rfl⟩ : ∃ (r : Fin 16) (l : Fin 128), x = ix2 r l := ⟨x 0, x 1, eq_ix2 x⟩
  refine (dzPiece_apply ..).trans ?_
  rw [View.readAt_eq_ld, View.readAt_eq_ld, View.readAt_eq_ld, View.readAt_eq_ld, hr.read_unread, hf.read_unread, hz.read_unread]
  have e1 : ((Rect.unit (s := S1024x512) ![o, p] S16x128.size i0).emb (ix2 r l) 1).val = p + l.val := by
    simp [Rect.emb, LoadRect.idx, Rect.toLoadRect, Rect.unit, ix2]
  unfold dzTile
  rw [e1, colAt_add p l.val hp l.isLt]
  congr 1 <;> (unfold View.ld; congr 1; funext a; fin_cases a <;> (apply Fin.ext; simp [Rect.emb, LoadRect.idx, Rect.toLoadRect, Rect.unit, ix2, ix4]))

/-- The same, for a stored value that is such a piece by unfolding: its place names the row and the column. -/
theorem dz_of (base : F .f32) (slot : Fin 2) (z : Vec F S2x2x1024x512 .f32) (rec fin : Vec F S1024x128 .f32)
    {az : Memref sig .tc .vmem S2x2x1024x512 .f32} (hz : az.IsWhole) {ar : Memref sig .tc .vmem S1024x128 .f32} (hr : ar.IsWhole)
    {af : Memref sig .tc .vmem S1024x128 .f32} (hf : af.IsWhole) {o p : ℕ}
    (i0 : ∀ a, (![o, p] : Fin 2 → ℕ) a + S16x128.size a ≤ S1024x512.size a)
    (i1 : ∀ a, (![o, 0] : Fin 2 → ℕ) a + S16x128.size a ≤ S1024x128.size a)
    (i2 : ∀ a, (![slot.val, 0, o, p] : Fin 4 → ℕ) a + S1x1x16x128.size a ≤ S2x2x1024x512.size a)
    (i3 : ∀ a, (![slot.val, 1, o, p] : Fin 4 → ℕ) a + S1x1x16x128.size a ≤ S2x2x1024x512.size a)
    (hp : p % 128 = 0) (w : FVec F S16x128 .bf16)
    (hw : w = dzPiece base (groupBits (p / 128))
        (View.readAt (Elt F) ar.view (Rect.unit (s := S1024x128) ![o, 0] S16x128.size i1).toLoadRect (hr.unread rec))
        (View.readAt (Elt F) af.view (Rect.unit (s := S1024x128) ![o, 0] S16x128.size i1).toLoadRect (hf.unread fin))
        (View.readAt (Elt F) az.view (Rect.unit (s := S2x2x1024x512) ![slot.val, 0, o, p] S1x1x16x128.size i2).toLoadRect (hz.unread z))
        (View.readAt (Elt F) az.view (Rect.unit (s := S2x2x1024x512) ![slot.val, 1, o, p] S1x1x16x128.size i3).toLoadRect (hz.unread z)))
    (x : (Rect.unit (s := S1024x512) ![o, p] S16x128.size i0).shape.Idx) :
    w x = dzTile base slot z rec fin ((Rect.unit (s := S1024x512) ![o, p] S16x128.size i0).emb x) := by
  subst hw
  exact dzPiece_eq base slot z rec fin hz hr hf o p i0 i1 i2 i3 hp x

/-- One more piece in front. -/
theorem PiecesOf.cons {s : Shape} {e : EltTy} {Val : EltTy → Type} {G : s.Idx → Val e} {p : View.Piece Val s e} {L : List (View.Piece Val s e)}
    (h : ∀ x : p.1.shape.Idx, p.2 x = G (p.1.emb x)) (t : View.PiecesOf G L) : View.PiecesOf G (p :: L) := ⟨h, t⟩

/-- What a covering list of pieces of `G` leaves, over any earlier contents, reads `G`. -/
theorem read_of_pieces {σ : RefSig} {κ : Kind} {sp : Space} {s : Shape} {e : EltTy} {Val : EltTy → Type} (v : View σ κ sp s e) (f : v.ty.Contents Val)
    (G : s.Idx → Val e) (L : List (View.Piece Val s e)) (hc : ∀ y, ∃ p ∈ L, y ∈ p.1.set) (h : View.PiecesOf G L) : v.read Val (v.writes Val f L) = G :=
  funext fun y => v.read_writes_apply_of_pieces f G L h.mem y (hc y)

/-- The same when only the `k` latest pieces are looked at. -/
theorem read_of_pieces_take {σ : RefSig} {κ : Kind} {sp : Space} {s : Shape} {e : EltTy} {Val : EltTy → Type} (v : View σ κ sp s e) (f : v.ty.Contents Val)
    (G : s.Idx → Val e) (k : ℕ) (L : List (View.Piece Val s e)) (hc : ∀ y, ∃ p ∈ L.take k, y ∈ p.1.set) (h : View.PiecesOf G (L.take k)) :
    v.read Val (v.writes Val f L) = G := by
  have e : v.writes Val f L = v.writes Val (v.writes Val f (L.drop k)) (L.take k) := by
    rw [← View.writes_append, List.take_append_drop]
  rw [e]; exact read_of_pieces v _ G _ hc h

theorem hz2 : (![0, 0] : Fin 2 → ℕ) = fun _ => 0 := funext fun a => by fin_cases a <;> rfl

/-- After a store of the whole buffer, whatever came before, the buffer reads the stored value. -/
theorem read_whole {σ : RefSig} {κ : Kind} {sp : Space} {s : Shape} {e : EltTy} {Val : EltTy → Type} (v : View σ κ sp s e) (f : v.ty.Contents Val)
    {off : Fin s.rank → ℕ} (h : off = fun _ => 0) (inb : ∀ a, off a + s.size a ≤ s.size a) (w : s.Idx → Val e) (L : List (View.Piece Val s e)) :
    v.read Val (v.writes Val f (⟨Rect.unit off s.size inb, w⟩ :: L)) = w := by
  subst h
  funext y
  have e : (Rect.unit (fun _ => 0) s.size inb).emb y = y := by funext a; apply Fin.ext; exact (Rect.emb_apply ..).trans (by show 0 + 1 * (y a).val = _; omega)
  have := View.read_writes_cons_emb v f (Rect.unit (fun _ => 0) s.size inb) w L y
  rwa [e] at this

/-- A load of the whole buffer, after stores that left it reading `G`. -/
theorem load_whole {σ : RefSig} {κ : Kind} {sp : Space} {s : Shape} {e : EltTy} {Val : EltTy → Type} (v : View σ κ sp s e) (f : v.ty.Contents Val)
    {off : Fin s.rank → ℕ} (h : off = fun _ => 0) (inb : ∀ a, off a + s.size a ≤ s.size a) (G : s.Idx → Val e) (hG : v.read Val f = G) :
    v.readAt Val (Rect.unit off s.size inb).toLoadRect f = G := by
  rw [View.readAt_eq_ld, hG]
  exact View.ld_unit_zero h inb G

/-- What one point adds to the gradient block: the old first-half tile through the first 512 rows of weights, the new second-half tile through the rest. -/
def dxStep (w : Vec F S1024x2048 .bf16) (acc : Vec F S1024x2048 .f32) (a b : Vec F S1024x512 .bf16) : Vec F S1024x2048 .f32 :=
  k0_pay6 (k0_pay6 acc a (View.ld w (Rect.unit (s := S1024x2048) ![0, 0] S512x2048.size inb_S1024x2048_S512x2048_0_0)))
    b (View.ld w (Rect.unit (s := S1024x2048) ![512, 0] S512x2048.size inb_S1024x2048_S512x2048_512_0))

end Cert.BwdIdeal.Hand

end
-- ==== Proof.BwdStepA.lean ====
/- The body of `BwdIdeal` at the first point, which clears both the gradient block and the carried tile. -/
module

public import proofs.«01_k».proof.Proof.BwdRuns
public import proofs.«01_k».proof.Proof.BwdTile

@[expose] public section

set_option maxRecDepth 16384

noncomputable section

namespace Cert.BwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdIdeal Cert.BwdIdeal.Gen

variable {F : FTy → Type} [FloatOps F]

local notation "𝕄" => MT nD τ sig Unit (Elt F) ℕ (UR sig nD τ) ℕ

set_option maxHeartbeats 14224000 in
/-- The body's triple: from the staged blocks and the carried contents to the block it leaves in the output and the tile it leaves for the next point. -/
theorem step_A (c : Dev nD) (i : grid0.Coords) (arg1 : Memref sig .tc .vmem S2x2x1024x512 .f32) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x2048 .f32) (harg7 : arg7.IsWhole) (arg8 : Memref sig .tc .vmem S1024x512 .bf16) (harg8 : arg8.IsWhole) (arg9 : Memref sig .tc .vmem S1024x512 .bf16) (harg9 : arg9.IsWhole) (hc0 : cond0_0 i) (hc1 : cond0_1 i)
    (x0 : Vec F S2x2x1024x512 .f32) (x1 : Vec F S1024x2048 .bf16) (x2 : Vec F S1024x128 .f32) (x3 : Vec F S1024x128 .f32) (x4 : Vec F S1024x128 .f32) (x5 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxStep x1 (k0_pay3 (F := F)) (k0_pay2 (F := F)) (dzTile (k0_pay4 (F := F) i) 0 x0 x2 x3)) ∗ owns (c : Thread nD τ) arg8 fullShare (dzTile (k0_pay5 (F := F) i) 1 x0 x4 x5) ∗ (∃ d, owns (c : Thread nD τ) arg9 fullShare d)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K := by
    intro E K
    simp only [cc0_bwd_eq_skeleton]; unfold cc0_bwd_skel
    simp only [k0_part334_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part335_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part336_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part337_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part338_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part339_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (read_whole _ _ hz2 _ _ _).trans ?_
      unfold dxStep
      refine congr (congr (congrArg k0_pay6 ?_) ?_) ?_
      · refine (load_whole _ _ hz2 _ _ (read_whole _ _ hz2 _ _ _)).trans ?_
        refine congr (congr (congrArg k0_pay6 ?_) ?_) ?_
        · exact load_whole _ _ hz2 _ _ (read_whole _ _ hz2 _ _ _)
        · exact load_whole _ _ hz2 _ _ (read_whole _ _ hz2 _ _ _)
        · exact congrArg (fun X => View.ld X _) (harg2.read_unread _)
      · refine load_whole _ _ hz2 _ _ (read_of_pieces _ _ _ _ (View.cover_of_tiledL _ ![16, 128] (by sl_kernel_rfl)) ?_)
        repeat refine PiecesOf.cons (dz_of (k0_pay4 (F := F) i) 0 x0 x2 x3 harg1 harg3 harg4 (by decide) (by decide) (by decide) (by decide) (by decide) _ (by exact rfl)) ?_
        exact trivial
      · exact congrArg (fun X => View.ld X _) (harg2.read_unread _)
    isplitl [HS0]
    · iexists _; isplitr; swap; · iexact HS0
      ipureintro
      refine read_of_pieces_take _ _ _ 256 _ (View.cover_of_tiledL _ ![16, 128] (by sl_kernel_rfl)) ?_
      repeat refine PiecesOf.cons (dz_of (k0_pay5 (F := F) i) 1 x0 x4 x5 harg1 harg5 harg6 (by decide) (by decide) (by decide) (by decide) (by decide) _ (by exact rfl)) ?_
      exact trivial
    iexists _, _; isplitr; swap; · iexact HS1
    ipureintro; rfl

end Cert.BwdIdeal.Hand

end
-- ==== Proof.BwdStepB.lean ====
/- The body of `BwdIdeal` at a point that clears the gradient block. -/
module

public import proofs.«01_k».proof.Proof.BwdRuns
public import proofs.«01_k».proof.Proof.BwdTile

@[expose] public section

set_option maxRecDepth 16384

noncomputable section

namespace Cert.BwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdIdeal Cert.BwdIdeal.Gen

variable {F : FTy → Type} [FloatOps F]

local notation "𝕄" => MT nD τ sig Unit (Elt F) ℕ (UR sig nD τ) ℕ

set_option maxHeartbeats 14224000 in
/-- The body's triple: from the staged blocks and the carried contents to the block it leaves in the output and the tile it leaves for the next point. -/
theorem step_B (c : Dev nD) (i : grid0.Coords) (arg1 : Memref sig .tc .vmem S2x2x1024x512 .f32) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x2048 .f32) (harg7 : arg7.IsWhole) (arg8 : Memref sig .tc .vmem S1024x512 .bf16) (harg8 : arg8.IsWhole) (arg9 : Memref sig .tc .vmem S1024x512 .bf16) (harg9 : arg9.IsWhole) (hc0 : ¬cond0_0 i) (hc1 : cond0_1 i)
    (x0 : Vec F S2x2x1024x512 .f32) (x1 : Vec F S1024x2048 .bf16) (x2 : Vec F S1024x128 .f32) (x3 : Vec F S1024x128 .f32) (x4 : Vec F S1024x128 .f32) (x5 : Vec F S1024x128 .f32) (xs : Vec F S1024x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxStep x1 (k0_pay3 (F := F)) xs (dzTile (k0_pay4 (F := F) i) 0 x0 x2 x3)) ∗ owns (c : Thread nD τ) arg8 fullShare (dzTile (k0_pay5 (F := F) i) 1 x0 x4 x5) ∗ (∃ d, owns (c : Thread nD τ) arg9 fullShare d)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K := by
    intro E K
    simp only [cc0_bwd_eq_skeleton]; unfold cc0_bwd_skel
    simp only [k0_part334_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part335_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part336_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part337_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part338_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part339_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (read_whole _ _ hz2 _ _ _).trans ?_
      unfold dxStep
      refine congr (congr (congrArg k0_pay6 ?_) ?_) ?_
      · refine (load_whole _ _ hz2 _ _ (read_whole _ _ hz2 _ _ _)).trans ?_
        refine congr (congr (congrArg k0_pay6 ?_) ?_) ?_
        · exact load_whole _ _ hz2 _ _ (read_whole _ _ hz2 _ _ _)
        · exact load_whole _ _ hz2 _ _ (harg8.read_unread _)
        · exact congrArg (fun X => View.ld X _) (harg2.read_unread _)
      · refine load_whole _ _ hz2 _ _ (read_of_pieces _ _ _ _ (View.cover_of_tiledL _ ![16, 128] (by sl_kernel_rfl)) ?_)
        repeat refine PiecesOf.cons (dz_of (k0_pay4 (F := F) i) 0 x0 x2 x3 harg1 harg3 harg4 (by decide) (by decide) (by decide) (by decide) (by decide) _ (by exact rfl)) ?_
        exact trivial
      · exact congrArg (fun X => View.ld X _) (harg2.read_unread _)
    isplitl [HS0]
    · iexists _; isplitr; swap; · iexact HS0
      ipureintro
      refine read_of_pieces _ _ _ _ (View.cover_of_tiledL _ ![16, 128] (by sl_kernel_rfl)) ?_
      repeat refine PiecesOf.cons (dz_of (k0_pay5 (F := F) i) 1 x0 x4 x5 harg1 harg5 harg6 (by decide) (by decide) (by decide) (by decide) (by decide) _ (by exact rfl)) ?_
      exact trivial
    iexists _, _; isplitr; swap; · iexact HS1
    ipureintro; rfl

end Cert.BwdIdeal.Hand

end
-- ==== Proof.BwdStepC.lean ====
/- The body of `BwdIdeal` at a point that resets nothing. -/
module

public import proofs.«01_k».proof.Proof.BwdRuns
public import proofs.«01_k».proof.Proof.BwdTile

@[expose] public section

set_option maxRecDepth 16384

noncomputable section

namespace Cert.BwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdIdeal Cert.BwdIdeal.Gen

variable {F : FTy → Type} [FloatOps F]

local notation "𝕄" => MT nD τ sig Unit (Elt F) ℕ (UR sig nD τ) ℕ

set_option maxHeartbeats 14224000 in
/-- The body's triple: from the staged blocks and the carried contents to the block it leaves in the output and the tile it leaves for the next point. -/
theorem step_C (c : Dev nD) (i : grid0.Coords) (arg1 : Memref sig .tc .vmem S2x2x1024x512 .f32) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x2048 .f32) (harg7 : arg7.IsWhole) (arg8 : Memref sig .tc .vmem S1024x512 .bf16) (harg8 : arg8.IsWhole) (arg9 : Memref sig .tc .vmem S1024x512 .bf16) (harg9 : arg9.IsWhole) (hc0 : ¬cond0_0 i) (hc1 : ¬cond0_1 i)
    (x0 : Vec F S2x2x1024x512 .f32) (x1 : Vec F S1024x2048 .bf16) (x2 : Vec F S1024x128 .f32) (x3 : Vec F S1024x128 .f32) (x4 : Vec F S1024x128 .f32) (x5 : Vec F S1024x128 .f32) (x6 : Vec F S1024x2048 .f32) (xs : Vec F S1024x512 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xs ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dxStep x1 x6 xs (dzTile (k0_pay4 (F := F) i) 0 x0 x2 x3)) ∗ owns (c : Thread nD τ) arg8 fullShare (dzTile (k0_pay5 (F := F) i) 1 x0 x4 x5) ∗ (∃ d, owns (c : Thread nD τ) arg9 fullShare d)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K := by
    intro E K
    simp only [cc0_bwd_eq_skeleton]; unfold cc0_bwd_skel
    simp only [k0_part334_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part335_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part336_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part337_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part338_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part339_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (read_whole _ _ hz2 _ _ _).trans ?_
      unfold dxStep
      refine congr (congr (congrArg k0_pay6 ?_) ?_) ?_
      · refine (load_whole _ _ hz2 _ _ (read_whole _ _ hz2 _ _ _)).trans ?_
        refine congr (congr (congrArg k0_pay6 ?_) ?_) ?_
        · exact load_whole _ _ hz2 _ _ (harg7.read_unread _)
        · exact load_whole _ _ hz2 _ _ (harg8.read_unread _)
        · exact congrArg (fun X => View.ld X _) (harg2.read_unread _)
      · refine load_whole _ _ hz2 _ _ (read_of_pieces _ _ _ _ (View.cover_of_tiledL _ ![16, 128] (by sl_kernel_rfl)) ?_)
        repeat refine PiecesOf.cons (dz_of (k0_pay4 (F := F) i) 0 x0 x2 x3 harg1 harg3 harg4 (by decide) (by decide) (by decide) (by decide) (by decide) _ (by exact rfl)) ?_
        exact trivial
      · exact congrArg (fun X => View.ld X _) (harg2.read_unread _)
    isplitl [HS0]
    · iexists _; isplitr; swap; · iexact HS0
      ipureintro
      refine read_of_pieces _ _ _ _ (View.cover_of_tiledL _ ![16, 128] (by sl_kernel_rfl)) ?_
      repeat refine PiecesOf.cons (dz_of (k0_pay5 (F := F) i) 1 x0 x4 x5 harg1 harg5 harg6 (by decide) (by decide) (by decide) (by decide) (by decide) _ (by exact rfl)) ?_
      exact trivial
    iexists _, _; isplitr; swap; · iexact HS1
    ipureintro; rfl

end Cert.BwdIdeal.Hand

end
-- ==== Proof.BwdFrame.lean ====
/- The run of `BwdIdeal` with its contents named: what the output block and the carried tile hold after each point, the
   pipeline's proof data over them, and the frame. -/
module

public import proofs.«01_k».proof.Proof.BwdStepA
public import proofs.«01_k».proof.Proof.BwdStepB
public import proofs.«01_k».proof.Proof.BwdStepC
public import Idealize.ShloMosaic.Lib.Claim

@[expose] public section

set_option maxRecDepth 16384

noncomputable section

namespace Cert.BwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.BwdIdeal Cert.BwdIdeal.Gen

variable {F : FTy → Type} [FloatOps F]

local notation "𝕄" => MT nD τ sig Unit (Elt F) ℕ (UR sig nD τ) ℕ

open Cert.BwdIdeal.Gen

variable (m : (ℓ : Loc nD τ sig) → Buf (Elt F) ℓ) (ρ : Dev nD → PrngReg)

/-! ## What the buffers hold after each point -/

/-- The tile point `t` makes from its second slot of logits, which the next point uses. -/
def dza (c : Dev nD) (t : Fin cfg0.N) : Vec F S1024x512 .bf16 :=
  dzTile (k0_pay5 (F := F) (grid0.coords t)) 1 (iblk m c 0 t) (iblk m c 4 t) (iblk m c 5 t)

/-- The tile point `t` makes from its first slot of logits and uses itself. -/
def dzb (c : Dev nD) (t : Fin cfg0.N) : Vec F S1024x512 .bf16 :=
  dzTile (k0_pay4 (F := F) (grid0.coords t)) 0 (iblk m c 0 t) (iblk m c 2 t) (iblk m c 3 t)

/-- The output block after point `n`: cleared at the first point and at the points one past a multiple of 48, and otherwise
    what the point before left, plus the two products of the point. -/
def dxAt (c : Dev nD) : (n : ℕ) → n < cfg0.N → Vec F S1024x2048 .f32
  | 0, h => dxStep (iblk m c 1 ⟨0, h⟩) (k0_pay3 (F := F)) (k0_pay2 (F := F)) (dzb m c ⟨0, h⟩)
  | n + 1, h => dxStep (iblk m c 1 ⟨n + 1, h⟩) (if (n + 1) % 48 = 1 then k0_pay3 (F := F) else dxAt c n (Nat.lt_of_succ_lt h))
      (dza m c ⟨n, Nat.lt_of_succ_lt h⟩) (dzb m c ⟨n + 1, h⟩)

theorem dxAt_zero (c : Dev nD) (t : Fin cfg0.N) (h : t.val = 0) :
    dxAt m c t.val t.isLt = dxStep (iblk m c 1 t) (k0_pay3 (F := F)) (k0_pay2 (F := F)) (dzb m c t) := by
  obtain ⟨n, hn⟩ := t; obtain rfl : n = 0 := h; rfl

theorem dxAt_reset (c : Dev nD) (t : Fin cfg0.N) (h0 : t.val ≠ 0) (h : t.val % 48 = 1) :
    dxAt m c t.val t.isLt = dxStep (iblk m c 1 t) (k0_pay3 (F := F)) (dza m c ⟨t.val - 1, by omega⟩) (dzb m c t) := by
  obtain ⟨n, hn⟩ := t
  cases n with
  | zero => exact absurd rfl h0
  | succ n => show dxStep _ (if (n + 1) % 48 = 1 then _ else _) _ _ = _; rw [if_pos h]; rfl

theorem dxAt_acc (c : Dev nD) (t : Fin cfg0.N) (h0 : t.val ≠ 0) (h : ¬t.val % 48 = 1) :
    dxAt m c t.val t.isLt = dxStep (iblk m c 1 t) (dxAt m c (t.val - 1) (by omega)) (dza m c ⟨t.val - 1, by omega⟩) (dzb m c t) := by
  obtain ⟨n, hn⟩ := t
  cases n with
  | zero => exact absurd rfl h0
  | succ n => show dxStep _ (if (n + 1) % 48 = 1 then _ else _) _ _ = _; rw [if_neg h]; rfl

/-- The scratch and the generator register before point `n`: at first anything, afterwards the carried tile is the one the
    point before made. -/
def PhiS (c : Dev nD) : (n : ℕ) → n ≤ cfg0.N → sProp 𝕄
  | 0, _ => Pipeline.ΦA spec0 c
  | n + 1, hn => iprop(iprop(owns (c : Thread nD τ) scM0_0 fullShare (dza m c ⟨n, hn⟩) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (dza m c ⟨n, hn⟩) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (dza m c ⟨n - 1, by omega⟩) ∗ (∃ d, owns (c : Thread nD τ) scM0_1 fullShare d)) ∗ (∃ r, prngReg c r)) := by
  cases n with
  | zero => exact absurd rfl hz
  | succ n => rfl

/-! ## The pipeline's proof data -/

/-- Each input's buffer at its block, the output's at `dxAt`, the scratch by `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxAt m c t.val t.isLt
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dxAt m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The output block is written back at the positive multiples of 48. -/
theorem flush0_6 : ∀ t : Fin cfg0.N, (cfg0.win 6).flush t = true ↔ (t.val % 48 = 0 ∧ t.val ≠ 0) :=
  (by decide +kernel : ∀ t : Fin grid0.N, win0_6.flush t = true ↔ (t.val % 48 = 0 ∧ t.val ≠ 0))

/-- At a point that clears nothing the output's buffer holds what the point before left. -/
theorem before0_6 (c : Dev nD) (t : Fin cfg0.N) (h0 : t.val ≠ 0) (h : ¬t.val % 48 = 1) (d) :
    (dats m 0 c).before 6 t d = dxAt m c (t.val - 1) (by omega) := by
  rw [(dats m 0 c).before_out_kept 6 rfl t h0 (by
    rw [Bool.eq_false_iff, ne_eq, flush0_6]; dsimp only; omega) (fun _ => rfl) (fun _ _ => rfl)]
  exact after0_6 m c _

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The condition that clears the output block, in closed form. -/
theorem hreset : ∀ t : Fin cfg0.N, cond0_1 (grid0.coords t) ↔ (t.val = 0 ∨ t.val % 48 = 1) :=
  (by decide +kernel : ∀ t : Fin grid0.N, cond0_1 (grid0.coords t) ↔ (t.val = 0 ∨ t.val % 48 = 1))

theorem hfirst (t : Fin cfg0.N) : cond0_0 (grid0.coords t) ↔ t.val = 0 := by
  have hN : t.val < 865 := lt_of_lt_of_eq t.isLt (show cfg0.N = 865 from N_0)
  rw [hcond0_0, Nat.mod_eq_of_lt hN]

set_option maxHeartbeats 4800000 in
/-- The body at any point: the case the closed forms select, run at the point's blocks and carried contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ, PhiS_castSucc]
  by_cases h0 : t.val = 0
  · rw [PhiS_zero m c _ _ h0, PhiA0_eq, dxAt_zero m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((step_A c (grid0.coords t) _ _ _ _ _ _ _ _ _ _ _ _ _ _ _ _ _ _ ((hfirst t).mpr h0) ((hreset t).mpr (.inl h0)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos m c _ _ h0]
    by_cases h1 : t.val % 48 = 1
    · rw [dxAt_reset m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((step_B c (grid0.coords t) _ _ _ _ _ _ _ _ _ _ _ _ _ _ _ _ _ _ (fun h => h0 ((hfirst t).mp h)) ((hreset t).mpr (.inr h1)) (iblk m c 0 t) (iblk m c 1 t) (iblk m c 2 t) (iblk m c 3 t) (iblk m c 4 t) (iblk m c 5 t) (dza m c ⟨t.val - 1, by omega⟩)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [dxAt_acc m c t h0 h1]
      simp only [before0_6 m c t h0 h1]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((step_C c (grid0.coords t) _ _ _ _ _ _ _ _ _ _ _ _ _ _ _ _ _ _ (fun h => h0 ((hfirst t).mp h)) (fun h => ((hreset t).mp h).elim h0 h1) (iblk m c 0 t) (iblk m c 1 t) (iblk m c 2 t) (iblk m c 3 t) (iblk m c 4 t) (iblk m c 5 t) (dxAt m c (t.val - 1) (by omega)) (dza m c ⟨t.val - 1, by omega⟩)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 865 := N_0; omega)

/-! ## The run and the frame -/

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.BwdIdeal.Hand

end
-- ==== Proof.BwdSpec.lean ====
/- What the gradient kernel computes, over the extended reals, as one formula of its arguments. -/
module

public import proofs.«01_k».proof.Proof.BwdTile
public import Idealize.ShloMosaic.Lib.MatmulPlain

@[expose] public section

set_option maxRecDepth 16384

noncomputable section

namespace Cert.BwdIdeal.Hand

open Idealize.ShloMosaic Idealize.ShloMosaic.TcCoe
open Cert.BwdIdeal Cert.BwdIdeal.Gen

/-- The derivative of the loss by score `n` of token `R`: `exp (z - lse) * (coef + 0.2 * diff) - (adv at the target)`. -/
def gEntry (z : FVec Ideal S1730x2x1024x512 .f32) (rec fin : FVec Ideal S18432x128 .f32) (R n : ℕ) : EReal :=
  Ideal.exp (z (ix4 (Fin.ofNat 1730 (1 + R / 1024 * 96 + n / 512)) (0 : Fin 2) (Fin.ofNat 1024 R) (Fin.ofNat 512 n)) - fin (ix2 (Fin.ofNat 18432 R) (3 : Fin 128)))
      * (fin (ix2 (Fin.ofNat 18432 R) (4 : Fin 128))
        + Ideal.ofBits .f32 0x3E4CCCCD#32 * z (ix4 (Fin.ofNat 1730 (1 + R / 1024 * 96 + n / 512)) (1 : Fin 2) (Fin.ofNat 1024 R) (Fin.ofNat 512 n)))
    - Scalar.select (Ideal.cmp .oeq (rec (ix2 (Fin.ofNat 18432 R) (1 : Fin 128))) ((n : ℝ) : EReal)) (rec (ix2 (Fin.ofNat 18432 R) (2 : Fin 128)))
        (Ideal.ofBits .f32 0x00000000#32)

/-- A target minus a base is the column exactly when the target is the base plus the column. -/
theorem sub_eq_iff (x : EReal) (a b : ℝ) : x - (a : EReal) = (b : EReal) ↔ x = ((a + b : ℝ) : EReal) := by
  induction x using EReal.rec with
  | bot => rw [EReal.bot_sub]; exact ⟨fun h => absurd h.symm (EReal.coe_ne_bot _), fun h => absurd h.symm (EReal.coe_ne_bot _)⟩
  | top => rw [EReal.top_sub_coe]; exact ⟨fun h => absurd h.symm (EReal.coe_ne_top _), fun h => absurd h.symm (EReal.coe_ne_top _)⟩
  | coe r => rw [← EReal.coe_sub, EReal.coe_eq_coe_iff, EReal.coe_eq_coe_iff]; constructor <;> intro h <;> linarith

theorem dzAt_ideal (a b : ℝ) (col tgt adv lse coef zp zd : EReal) (hcol : col = (b : EReal)) :
    dzAt (F := Ideal) (a : EReal) col tgt adv lse coef zp zd
      = Ideal.exp (zp - lse) * (coef + Ideal.ofBits .f32 0x3E4CCCCD#32 * zd)
        - Scalar.select (Ideal.cmp .oeq tgt ((a + b : ℝ) : EReal)) adv (Ideal.ofBits .f32 0x00000000#32) := by
  subst hcol
  have e : Ideal.cmp .oeq (tgt - (a : EReal)) (b : EReal) = Ideal.cmp .oeq tgt ((a + b : ℝ) : EReal) := by
    unfold Ideal.cmp; simp only [sub_eq_iff]
  rw [← e]; rfl

theorem ofBits_128 : Ideal.ofBits .f32 0x43000000#32 = ((128 : ℝ) : EReal) := by
  simp [Ideal.ofBits, Ideal.ieee]; rw [← EReal.coe_mul]; congr 1; norm_num
theorem ofBits_256 : Ideal.ofBits .f32 0x43800000#32 = ((256 : ℝ) : EReal) := by
  simp [Ideal.ofBits, Ideal.ieee]; rw [← EReal.coe_mul]; congr 1; norm_num
theorem ofBits_384 : Ideal.ofBits .f32 0x43C00000#32 = ((384 : ℝ) : EReal) := by
  simp [Ideal.ofBits, Ideal.ieee]; rw [← EReal.coe_mul]; congr 1; norm_num

theorem toInt_ofNat_small (n : ℕ) (h : n < 128) : (BitVec.ofNat 32 n).toInt = n := by
  rw [BitVec.toInt_eq_toNat_of_lt (by rw [BitVec.toNat_ofNat]; omega), BitVec.toNat_ofNat]; omega

/-- The column the body computes is the column's number. -/
theorem colAt_ideal (n : ℕ) (h : n < 512) : colAt (F := Ideal) n = ((n : ℝ) : EReal) := by
  have e : colAt (F := Ideal) n = (((BitVec.ofNat 32 (n % 128)).toInt : ℝ) : EReal) + Ideal.ofBits .f32 (groupBits (n / 128)) := rfl
  rw [e, toInt_ofNat_small _ (Nat.mod_lt _ (by decide))]
  have hn := Nat.div_add_mod n 128
  have h4 : n / 128 = 0 ∨ n / 128 = 1 ∨ n / 128 = 2 ∨ n / 128 = 3 := by omega
  have hm : ((n : ℕ) : ℝ) = 128 * ((n / 128 : ℕ) : ℝ) + ((n % 128 : ℕ) : ℝ) := by exact_mod_cast hn.symm
  have hc : (((n % 128 : ℕ) : ℤ) : ℝ) = ((n % 128 : ℕ) : ℝ) := Int.cast_natCast _
  rw [hm, hc]
  generalize ((n % 128 : ℕ) : ℝ) = y
  rcases h4 with h4 | h4 | h4 | h4 <;> rw [h4]
  · show _ + Ideal.ofBits .f32 0x00000000#32 = _
    rw [Ideal.ofBits_zero_f32]; simp
  · show _ + Ideal.ofBits .f32 0x43000000#32 = _
    rw [ofBits_128, ← EReal.coe_add]; congr 1; push_cast; ring
  · show _ + Ideal.ofBits .f32 0x43800000#32 = _
    rw [ofBits_256, ← EReal.coe_add]; congr 1; push_cast; ring
  · show _ + Ideal.ofBits .f32 0x43C00000#32 = _
    rw [ofBits_384, ← EReal.coe_add]; congr 1; push_cast; ring

/-- The block a point leaves, at an entry: the earlier contents and the two products. -/
theorem pay6_apply (acc : Vec Ideal S1024x2048 .f32) (a : Vec Ideal S1024x512 .bf16) (w : Vec Ideal S512x2048 .bf16) (r : Fin 1024) (d : Fin 2048) :
    k0_pay6 (F := Ideal) acc a w (ix2 r d) = (acc (ix2 r d) + ∑ q : Fin 512, a (ix2 r q) * w (ix2 q d) : EReal) := by
  have e : k0_pay6 (F := Ideal) acc a w (ix2 r d) = (acc (ix2 r d) + FloatOps.matmul (F := Ideal) (φ₁ := .bf16) (φ₂ := .bf16) (DotDims.plain 1024 512 2048) none a w (constant S1024x2048 .f32 0x00000000#32) (ix2 r d) : EReal) := by
    unfold k0_pay6; rw [shapeCast_self]; rfl
  have z : (constant S1024x2048 .f32 0x00000000#32 : FVec Ideal S1024x2048 .f32) (ix2 r d) = (0 : EReal) := Ideal.ofBits_zero_f32
  have h := Ideal.matmul_plain_apply (M := 1024) (K := 512) (N := 2048) (φ₁ := .bf16) (φ₂ := .bf16) none a w (constant S1024x2048 .f32 0x00000000#32) r d
  refine e.trans (congrArg (acc (ix2 r d) + · : EReal → EReal) (h.trans ?_))
  refine (congrArg (· + _ : EReal → EReal) z).trans (zero_add _)

theorem dxStep_apply (w : Vec Ideal S1024x2048 .bf16) (acc : Vec Ideal S1024x2048 .f32) (a b : Vec Ideal S1024x512 .bf16) (r : Fin 1024) (d : Fin 2048) :
    dxStep (F := Ideal) w acc a b (ix2 r d)
      = (acc (ix2 r d) + ∑ q : Fin 512, a (ix2 r q) * w (ix2 (Fin.ofNat 1024 q.val) d)
        + ∑ q : Fin 512, b (ix2 r q) * w (ix2 (Fin.ofNat 1024 (512 + q.val)) d) : EReal) := by
  unfold dxStep
  rw [pay6_apply, pay6_apply]
  have l (o : ℕ) (ho : o + 512 ≤ 1024) (inb) (q : Fin 512) : View.ld w (Rect.unit (s := S1024x2048) ![o, 0] S512x2048.size inb) (ix2 q d) = w (ix2 (Fin.ofNat 1024 (o + q.val)) d) := by
    show w _ = w _
    congr 1
    funext a
    apply Fin.ext
    have hq := q.isLt
    match a with
    | ⟨0, _⟩ => show o + 1 * q.val = (o + q.val) % 1024; omega
    | ⟨1, _⟩ => show 0 + 1 * d.val = d.val; omega
  simp only [l 0 (by decide), l 512 (by decide), Nat.zero_add]

end Cert.BwdIdeal.Hand

end
-- ==== Proof.BwdRef.lean ====
/- The reference of the gradient call, read at an entry: the sum over the vocabulary of the derivative times the weight. -/
module

public import proofs.«01_k».proof.Proof.BwdSpec
public import proofs.«01_k».proof.Proof.Gen.BwdReferenceIdeal.Read

@[expose] public section

set_option maxRecDepth 16384

noncomputable section

namespace Cert.BwdIdeal.Hand

open Idealize.ShloMosaic Idealize.ShloMosaic.TcCoe
open Cert.BwdReferenceIdeal Cert.BwdReferenceIdeal.Read

/-- A weight by its row's number. -/
def wAt (w : FVec Ideal S49152x2048 .bf16) (n : ℕ) (d : Fin 2048) : EReal := w (ix2 (Fin.ofNat 49152 n) d)

variable (x0 : FVec Ideal S1730x2x1024x512 .f32) (x1 : FVec Ideal S49152x2048 .bf16) (x2 x3 : FVec Ideal S18432x128 .f32)

theorem tile_of (A q s u : ℕ) (hq : q < 2) (hs : s < 1024) (hu : u < 512) : (((A * 2 + q) * 1024 + s) * 512 + u) / 1048576 = A := by omega

theorem logit_idx (i : S2x18432x49152.Idx) : idx_main_v0 (idx_main_v1 (idx_main_v2 (idx_main_v3 i)))
    = ix4 (Fin.ofNat 1730 (1 + (i 1).val / 1024 * 96 + (i 2).val / 512)) (Fin.ofNat 2 (i 0).val) (Fin.ofNat 1024 (i 1).val) (Fin.ofNat 512 (i 2).val) := by
  have h0 : (i 0).val < 2 := (i 0).isLt
  have h1 : (i 1).val < 18432 := (i 1).isLt
  have h2 : (i 2).val < 49152 := (i 2).isLt
  have a0 : (idx_main_v3 i 0).val = (i 0).val := by
    show (((i 0).val * 18432 + (i 1).val) * 49152 + (i 2).val) / 905969664 = _; omega
  have a1 : (idx_main_v3 i 1).val = (i 1).val / 1024 := by
    show (((i 0).val * 18432 + (i 1).val) * 49152 + (i 2).val) / 50331648 % 18 = _; omega
  have a2 : (idx_main_v3 i 2).val = (i 1).val % 1024 := by
    show (((i 0).val * 18432 + (i 1).val) * 49152 + (i 2).val) / 49152 % 1024 = _; omega
  have a3 : (idx_main_v3 i 3).val = (i 2).val / 512 := by
    show (((i 0).val * 18432 + (i 1).val) * 49152 + (i 2).val) / 512 % 96 = _; omega
  have a4 : (idx_main_v3 i 4).val = (i 2).val % 512 := by
    show (((i 0).val * 18432 + (i 1).val) * 49152 + (i 2).val) % 512 = _; omega
  generalize idx_main_v3 i = j at a0 a1 a2 a3 a4
  have b0 : (idx_main_v2 j 0).val = (i 1).val / 1024 := a1
  have b1 : (idx_main_v2 j 1).val = (i 2).val / 512 := a3
  have b2 : (idx_main_v2 j 2).val = (i 0).val := a0
  have b3 : (idx_main_v2 j 3).val = (i 1).val % 1024 := a2
  have b4 : (idx_main_v2 j 4).val = (i 2).val % 512 := a4
  generalize idx_main_v2 j = k at b0 b1 b2 b3 b4
  funext a
  apply Fin.ext
  match a with
  | ⟨0, _⟩ =>
    show 1 + (((((k 0).val * 96 + (k 1).val) * 2 + (k 2).val) * 1024 + (k 3).val) * 512 + (k 4).val) / 1048576 = (1 + (i 1).val / 1024 * 96 + (i 2).val / 512) % 1730
    rw [b0, b1, b2, b3, b4, tile_of _ _ _ _ h0 (Nat.mod_lt _ (by decide)) (Nat.mod_lt _ (by decide))]; omega
  | ⟨1, _⟩ =>
    show (((((k 0).val * 96 + (k 1).val) * 2 + (k 2).val) * 1024 + (k 3).val) * 512 + (k 4).val) / 524288 % 2 = (i 0).val % 2
    rw [b0, b1, b2, b3, b4]; omega
  | ⟨2, _⟩ =>
    show (((((k 0).val * 96 + (k 1).val) * 2 + (k 2).val) * 1024 + (k 3).val) * 512 + (k 4).val) / 512 % 1024 = (i 1).val % 1024
    rw [b0, b1, b2, b3, b4]; omega
  | ⟨3, _⟩ =>
    show (((((k 0).val * 96 + (k 1).val) * 2 + (k 2).val) * 1024 + (k 3).val) * 512 + (k 4).val) % 512 = (i 2).val % 512
    rw [b0, b1, b2, b3, b4]; omega

theorem ref_logit0 (R : Fin 18432) (n : Fin 49152) : val_main_v5 (F := Ideal) x0 (ix2 R n)
    = x0 (ix4 (Fin.ofNat 1730 (1 + R.val / 1024 * 96 + n.val / 512)) (0 : Fin 2) (Fin.ofNat 1024 R.val) (Fin.ofNat 512 n.val)) := by
  rw [val_main_v5_apply, val_main_v4_apply, val_main_v3_apply, val_main_v2_apply, val_main_v1_apply, val_main_v0_apply, logit_idx]
  have hR := R.isLt
  have hn := n.isLt
  have a0 : (idx_main_v4 (idx_main_v5 (ix2 R n)) 0).val = 0 := rfl
  have a1 : (idx_main_v4 (idx_main_v5 (ix2 R n)) 1).val = R.val := by
    show (R.val * 49152 + n.val) / 49152 % 18432 = R.val; omega
  have a2 : (idx_main_v4 (idx_main_v5 (ix2 R n)) 2).val = n.val := by
    show (R.val * 49152 + n.val) % 49152 = n.val; omega
  rw [a0, a1, a2]
  rfl

theorem ref_logit1 (R : Fin 18432) (n : Fin 49152) : val_main_v7 (F := Ideal) x0 (ix2 R n)
    = x0 (ix4 (Fin.ofNat 1730 (1 + R.val / 1024 * 96 + n.val / 512)) (1 : Fin 2) (Fin.ofNat 1024 R.val) (Fin.ofNat 512 n.val)) := by
  rw [val_main_v7_apply, val_main_v6_apply, val_main_v3_apply, val_main_v2_apply, val_main_v1_apply, val_main_v0_apply, logit_idx]
  have hR := R.isLt
  have hn := n.isLt
  have a0 : (idx_main_v6 (idx_main_v7 (ix2 R n)) 0).val = 1 := rfl
  have a1 : (idx_main_v6 (idx_main_v7 (ix2 R n)) 1).val = R.val := by
    show (R.val * 49152 + n.val) / 49152 % 18432 = R.val; omega
  have a2 : (idx_main_v6 (idx_main_v7 (ix2 R n)) 2).val = n.val := by
    show (R.val * 49152 + n.val) % 49152 = n.val; omega
  rw [a0, a1, a2]
  rfl

theorem ofNat_self (R : Fin 18432) : Fin.ofNat 18432 R.val = R := Fin.ext (Nat.mod_eq_of_lt R.isLt)

theorem ref_lse (R : Fin 18432) (n : Fin 49152) : val_main_v17 (F := Ideal) x3 (ix2 R n) = x3 (ix2 R (3 : Fin 128)) := by
  rw [val_main_v17_apply, val_main_v16_apply, val_main_v13_apply, val_main_v12_apply]
  congr 1; funext a; apply Fin.ext; have hR := R.isLt
  match a with
  | ⟨0, _⟩ => simp [idx_main_v17, idx_main_v16, idx_main_v13, idx_main_v12, ix2]
  | ⟨1, _⟩ => simp [idx_main_v17, idx_main_v16, idx_main_v13, idx_main_v12, ix2]

theorem ref_coef (R : Fin 18432) (n : Fin 49152) : val_main_v29 (F := Ideal) x3 (ix2 R n) = x3 (ix2 R (4 : Fin 128)) := by
  rw [val_main_v29_apply, val_main_v26_apply, val_main_v15_apply, val_main_v14_apply]
  congr 1; funext a; apply Fin.ext; have hR := R.isLt
  match a with
  | ⟨0, _⟩ => simp [idx_main_v29, idx_main_v26, idx_main_v15, idx_main_v14, ix2]
  | ⟨1, _⟩ => simp [idx_main_v29, idx_main_v26, idx_main_v15, idx_main_v14, ix2]

theorem ref_tgt (R : Fin 18432) (n : Fin 49152) : val_main_v23 (F := Ideal) x2 (ix2 R n) = x2 (ix2 R (1 : Fin 128)) := by
  rw [val_main_v23_apply, val_main_v20_apply, val_main_v9_apply, val_main_v8_apply]
  congr 1; funext a; apply Fin.ext; have hR := R.isLt
  match a with
  | ⟨0, _⟩ => simp [idx_main_v23, idx_main_v20, idx_main_v9, idx_main_v8, ix2]
  | ⟨1, _⟩ => simp [idx_main_v23, idx_main_v20, idx_main_v9, idx_main_v8, ix2]

theorem ref_adv (R : Fin 18432) (n : Fin 49152) : val_main_call0_v1 (F := Ideal) x2 (ix2 R n) = x2 (ix2 R (2 : Fin 128)) := by
  rw [val_main_call0_v1_apply, val_main_v32_apply, val_main_v11_apply, val_main_v10_apply]
  congr 1; funext a; apply Fin.ext; have hR := R.isLt
  match a with
  | ⟨0, _⟩ => simp [idx_main_call0_v1, idx_main_v32, idx_main_v11, idx_main_v10, ix2]
  | ⟨1, _⟩ => simp [idx_main_call0_v1, idx_main_v32, idx_main_v11, idx_main_v10, ix2]

theorem ref_col (R : Fin 18432) (n : Fin 49152) : val_main_v24 (F := Ideal) (ix2 R n) = ((n.val : ℝ) : EReal) := by
  rw [val_main_v24_apply, val_main_v22_apply]
  show (((BitVec.ofNat 32 n.val).toInt : ℝ) : EReal) = _
  have hn := n.isLt
  rw [BitVec.toInt_eq_toNat_of_lt (by rw [BitVec.toNat_ofNat]; omega), BitVec.toNat_ofNat, Nat.mod_eq_of_lt (by omega)]
  rfl

/-- The derivative the reference makes is the formula's. -/
theorem ref_entry (R : Fin 18432) (n : Fin 49152) : val_main_v35 (F := Ideal) x0 x2 x3 (ix2 R n) = gEntry x0 x2 x3 R.val n.val := by
  rw [val_main_v35_apply, val_main_v34_apply, val_main_v33_apply, val_main_v31_apply, val_main_v30_apply, val_main_v19_apply, val_main_v18_apply,
    val_main_v28_apply, val_main_v25_apply, ref_logit0, ref_logit1, ref_lse, ref_coef, ref_tgt, ref_adv, ref_col]
  unfold gEntry
  rw [ofNat_self]
  rfl

/-- The reference's gradient at an entry. -/
theorem ref_value (R : Fin 18432) (d : Fin 2048) :
    val_main_v36 (F := Ideal) x0 x1 x2 x3 (ix2 R d) = ∑ n ∈ Finset.range 49152, gEntry x0 x2 x3 R.val n * wAt x1 n d := by
  rw [val_main_v36_apply, ← Fin.sum_univ_eq_sum_range (fun n => gEntry x0 x2 x3 R.val n * wAt x1 n d)]
  refine Finset.sum_congr rfl fun n _ => ?_
  have hl : lidx_main_v36 (ix2 R d) n = ix2 R n := by
    funext a; match a with
    | ⟨0, _⟩ => rfl
    | ⟨1, _⟩ => rfl
  have hr : ridx_main_v36 (ix2 R d) n = ix2 (Fin.ofNat 49152 n.val) d := by
    funext a; match a with
    | ⟨0, _⟩ => exact Fin.ext (Nat.mod_eq_of_lt n.isLt).symm
    | ⟨1, _⟩ => rfl
  rw [hl, ref_entry, hr]
  rfl

end Cert.BwdIdeal.Hand

end
-- ==== Proof.BwdValue.lean ====
/- The value of the gradient kernel over the extended reals: each output block is the sum over the vocabulary. -/
module

public import proofs.«01_k».proof.Proof.BwdFrame
public import proofs.«01_k».proof.Proof.BwdRef

@[expose] public section

set_option maxRecDepth 16384

noncomputable section

namespace Cert.BwdIdeal.Hand

open Idealize.ShloMosaic Idealize.ShloMosaic.TcCoe
open Idealize.SL Idealize.SL.Sem
open Cert.BwdIdeal Cert.BwdIdeal.Gen

variable (m : (ℓ : Loc nD τ sig) → Buf (Elt Ideal) ℓ) (ρ : Dev nD → PrngReg)

/-! ## Which block each window holds -/

theorem index0_0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index0_1 : ∀ t : Fin cfg0.N, win0_1.index t 0 = (t.val - 1) % 48 ∧ win0_1.index t 1 = 0 :=
  (by decide +kernel : ∀ t : Fin grid0.N, win0_1.index t 0 = (t.val - 1) % 48 ∧ win0_1.index t 1 = 0)
theorem index0_2 : ∀ t : Fin cfg0.N, win0_2.index t 0 = (t.val - 1) / 48 ∧ win0_2.index t 1 = 0 :=
  (by decide +kernel : ∀ t : Fin grid0.N, win0_2.index t 0 = (t.val - 1) / 48 ∧ win0_2.index t 1 = 0)
theorem index0_3 : ∀ t : Fin cfg0.N, win0_3.index t 0 = (t.val - 1) / 48 ∧ win0_3.index t 1 = 0 :=
  (by decide +kernel : ∀ t : Fin grid0.N, win0_3.index t 0 = (t.val - 1) / 48 ∧ win0_3.index t 1 = 0)
theorem index0_4 : ∀ t : Fin cfg0.N, win0_4.index t 0 = min (t.val / 48) 17 ∧ win0_4.index t 1 = 0 :=
  (by decide +kernel : ∀ t : Fin grid0.N, win0_4.index t 0 = min (t.val / 48) 17 ∧ win0_4.index t 1 = 0)
theorem index0_5 : ∀ t : Fin cfg0.N, win0_5.index t 0 = min (t.val / 48) 17 ∧ win0_5.index t 1 = 0 :=
  (by decide +kernel : ∀ t : Fin grid0.N, win0_5.index t 0 = min (t.val / 48) 17 ∧ win0_5.index t 1 = 0)
theorem index0_6 : ∀ t : Fin cfg0.N, win0_6.index t 0 = (t.val - 1) / 48 ∧ win0_6.index t 1 = 0 :=
  (by decide +kernel : ∀ t : Fin grid0.N, win0_6.index t 0 = (t.val - 1) / 48 ∧ win0_6.index t 1 = 0)

theorem hN : cfg0.N = 865 := (by decide +kernel : grid0.N = 865)

/-- The arguments by name. -/
abbrev zArg (c : Dev nD) : FVec Ideal S1730x2x1024x512 .f32 := m (c.tc.loc main_arg0)
abbrev wArg (c : Dev nD) : FVec Ideal S49152x2048 .bf16 := m (c.tc.loc main_arg1)
abbrev recArg (c : Dev nD) : FVec Ideal S18432x128 .f32 := m (c.tc.loc main_arg2)
abbrev finArg (c : Dev nD) : FVec Ideal S18432x128 .f32 := m (c.tc.loc main_arg3)

theorem iblk_z (c : Dev nD) (t : Fin cfg0.N) (s : Fin 2) (a : Fin 2) (r : Fin 1024) (q : Fin 512) :
    iblk m c 0 t (ix4 s a r q) = zArg m c (ix4 (Fin.ofNat 1730 (2 * t.val + s.val)) a r q) := by
  unfold iblk
  rw [View.read_apply]
  show V m c main_arg0 _ = m (c.tc.loc main_arg0) _
  unfold V
  congr 1
  obtain ⟨h0, h1, h2, h3⟩ := index0_0 t
  have ht := t.isLt
  have hN := hN
  have hs := s.isLt
  funext b
  apply Fin.ext
  match b with
  | ⟨0, _⟩ => show win0_0.index t 0 * 2 + 1 * s.val = (2 * t.val + s.val) % 1730; rw [h0]; omega
  | ⟨1, _⟩ => show win0_0.index t 1 * 2 + 1 * a.val = a.val; rw [h1]; omega
  | ⟨2, _⟩ => show win0_0.index t 2 * 1024 + 1 * r.val = r.val; rw [h2]; omega
  | ⟨3, _⟩ => show win0_0.index t 3 * 512 + 1 * q.val = q.val; rw [h3]; omega

theorem iblk_w (c : Dev nD) (t : Fin cfg0.N) (k : Fin 1024) (d : Fin 2048) :
    iblk m c 1 t (ix2 k d) = wAt (wArg m c) ((t.val - 1) % 48 * 1024 + k.val) d := by
  unfold iblk wAt
  rw [View.read_apply]
  show V m c main_arg1 _ = m (c.tc.loc main_arg1) _
  unfold V
  congr 1
  obtain ⟨h0, h1⟩ := index0_1 t
  have hk := k.isLt
  funext b
  apply Fin.ext
  match b with
  | ⟨0, _⟩ => show win0_1.index t 0 * 1024 + 1 * k.val = ((t.val - 1) % 48 * 1024 + k.val) % 49152; rw [h0]; omega
  | ⟨1, _⟩ => show win0_1.index t 1 * 2048 + 1 * d.val = d.val; rw [h1]; omega

theorem iblk_rec_b (c : Dev nD) (t : Fin cfg0.N) (r : Fin 1024) (l : Fin 128) :
    iblk m c 2 t (ix2 r l) = recArg m c (ix2 (Fin.ofNat 18432 ((t.val - 1) / 48 * 1024 + r.val)) l) := by
  unfold iblk
  rw [View.read_apply]
  show V m c main_arg2 _ = m (c.tc.loc main_arg2) _
  unfold V
  congr 1
  obtain ⟨h0, h1⟩ := index0_2 t
  have hr := r.isLt
  have ht := t.isLt
  have hN := hN
  funext b
  apply Fin.ext
  match b with
  | ⟨0, _⟩ => show win0_2.index t 0 * 1024 + 1 * r.val = ((t.val - 1) / 48 * 1024 + r.val) % 18432; rw [h0]; omega
  | ⟨1, _⟩ => show win0_2.index t 1 * 128 + 1 * l.val = l.val; rw [h1]; omega

theorem iblk_fin_b (c : Dev nD) (t : Fin cfg0.N) (r : Fin 1024) (l : Fin 128) :
    iblk m c 3 t (ix2 r l) = finArg m c (ix2 (Fin.ofNat 18432 ((t.val - 1) / 48 * 1024 + r.val)) l) := by
  unfold iblk
  rw [View.read_apply]
  show V m c main_arg3 _ = m (c.tc.loc main_arg3) _
  unfold V
  congr 1
  obtain ⟨h0, h1⟩ := index0_3 t
  have hr := r.isLt
  have ht := t.isLt
  have hN := hN
  funext b
  apply Fin.ext
  match b with
  | ⟨0, _⟩ => show win0_3.index t 0 * 1024 + 1 * r.val = ((t.val - 1) / 48 * 1024 + r.val) % 18432; rw [h0]; omega
  | ⟨1, _⟩ => show win0_3.index t 1 * 128 + 1 * l.val = l.val; rw [h1]; omega

theorem iblk_rec_a (c : Dev nD) (t : Fin cfg0.N) (h : t.val < 864) (r : Fin 1024) (l : Fin 128) :
    iblk m c 4 t (ix2 r l) = recArg m c (ix2 (Fin.ofNat 18432 (t.val / 48 * 1024 + r.val)) l) := by
  unfold iblk
  rw [View.read_apply]
  show V m c main_arg2 _ = m (c.tc.loc main_arg2) _
  unfold V
  congr 1
  obtain ⟨h0, h1⟩ := index0_4 t
  have hr := r.isLt
  funext b
  apply Fin.ext
  match b with
  | ⟨0, _⟩ => show win0_4.index t 0 * 1024 + 1 * r.val = (t.val / 48 * 1024 + r.val) % 18432; rw [h0]; omega
  | ⟨1, _⟩ => show win0_4.index t 1 * 128 + 1 * l.val = l.val; rw [h1]; omega

theorem iblk_fin_a (c : Dev nD) (t : Fin cfg0.N) (h : t.val < 864) (r : Fin 1024) (l : Fin 128) :
    iblk m c 5 t (ix2 r l) = finArg m c (ix2 (Fin.ofNat 18432 (t.val / 48 * 1024 + r.val)) l) := by
  unfold iblk
  rw [View.read_apply]
  show V m c main_arg3 _ = m (c.tc.loc main_arg3) _
  unfold V
  congr 1
  obtain ⟨h0, h1⟩ := index0_5 t
  have hr := r.isLt
  funext b
  apply Fin.ext
  match b with
  | ⟨0, _⟩ => show win0_5.index t 0 * 1024 + 1 * r.val = (t.val / 48 * 1024 + r.val) % 18432; rw [h0]; omega
  | ⟨1, _⟩ => show win0_5.index t 1 * 128 + 1 * l.val = l.val; rw [h1]; omega

/-! ## The two tiles of a point -/

theorem pay5_bits : ∀ t : Fin cfg0.N, (Scalar.muli (Scalar.remsi (BitVec.ofNat 32 ((grid0.coords t) 0).val) 48#32) 1024#32).toInt = ((t.val % 48 * 1024 : ℕ) : ℤ) :=
  (by decide +kernel : ∀ t : Fin grid0.N, (Scalar.muli (Scalar.remsi (BitVec.ofNat 32 ((grid0.coords t) 0).val) 48#32) 1024#32).toInt = ((t.val % 48 * 1024 : ℕ) : ℤ))

theorem pay4_bits : ∀ t : Fin cfg0.N, (Scalar.addi (Scalar.muli (Scalar.remsi (Scalar.maxsi (Scalar.subi (BitVec.ofNat 32 ((grid0.coords t) 0).val) 1#32) 0#32) 48#32) 1024#32) 512#32).toInt
    = (((t.val - 1) % 48 * 1024 + 512 : ℕ) : ℤ) :=
  (by decide +kernel : ∀ t : Fin grid0.N, (Scalar.addi (Scalar.muli (Scalar.remsi (Scalar.maxsi (Scalar.subi (BitVec.ofNat 32 ((grid0.coords t) 0).val) 1#32) 0#32) 48#32) 1024#32) 512#32).toInt
    = (((t.val - 1) % 48 * 1024 + 512 : ℕ) : ℤ))

theorem pay5_ideal (t : Fin cfg0.N) : k0_pay5 (F := Ideal) (grid0.coords t) = (((t.val % 48 * 1024 : ℕ) : ℝ) : EReal) := by
  show (((Scalar.muli (Scalar.remsi (BitVec.ofNat 32 ((grid0.coords t) 0).val) 48#32) 1024#32).toInt : ℝ) : EReal) = _
  rw [pay5_bits]; rw [Int.cast_natCast]

theorem pay4_ideal (t : Fin cfg0.N) : k0_pay4 (F := Ideal) (grid0.coords t) = ((((t.val - 1) % 48 * 1024 + 512 : ℕ) : ℝ) : EReal) := by
  show (((Scalar.addi (Scalar.muli (Scalar.remsi (Scalar.maxsi (Scalar.subi (BitVec.ofNat 32 ((grid0.coords t) 0).val) 1#32) 0#32) 48#32) 1024#32) 512#32).toInt : ℝ) : EReal) = _
  rw [pay4_bits]; rw [Int.cast_natCast]

/-- A tile's entry is the formula's, when its column numbers start at `B` and its rows at `A`. -/
theorem tile_entry (z : FVec Ideal S1730x2x1024x512 .f32) (rec fin : FVec Ideal S18432x128 .f32) (A B K : ℕ) (base : EReal) (slot : Fin 2)
    (zb : Vec Ideal S2x2x1024x512 .f32) (rb fb : Vec Ideal S1024x128 .f32) (r : Fin 1024) (q : Fin 512)
    (hbase : base = ((B : ℝ) : EReal)) (hA : A % 1024 = 0) (hB : B % 512 = 0) (hK : K = 1 + A / 1024 * 96 + B / 512)
    (hz : ∀ a : Fin 2, zb (ix4 slot a r q) = z (ix4 (Fin.ofNat 1730 K) a r q))
    (hr : ∀ l : Fin 128, rb (ix2 r l) = rec (ix2 (Fin.ofNat 18432 (A + r.val)) l))
    (hf : ∀ l : Fin 128, fb (ix2 r l) = fin (ix2 (Fin.ofNat 18432 (A + r.val)) l)) :
    dzTile (F := Ideal) base slot zb rb fb (ix2 r q) = gEntry z rec fin (A + r.val) (B + q.val) := by
  subst hbase
  have hq := q.isLt
  have hr' := r.isLt
  show dzAt (F := Ideal) ((B : ℝ) : EReal) (colAt q.val) (rb (ix2 r (1 : Fin 128))) (rb (ix2 r (2 : Fin 128))) (fb (ix2 r (3 : Fin 128)))
    (fb (ix2 r (4 : Fin 128))) (zb (ix4 slot (0 : Fin 2) r q)) (zb (ix4 slot (1 : Fin 2) r q)) = _
  rw [dzAt_ideal (B : ℝ) (q.val : ℝ) _ _ _ _ _ _ _ (colAt_ideal q.val hq), hz, hz, hr, hr, hf, hf]
  have e0 : 1 + (A + r.val) / 1024 * 96 + (B + q.val) / 512 = K := by omega
  have e1 : Fin.ofNat 1024 (A + r.val) = r := Fin.ext (by show (A + r.val) % 1024 = r.val; omega)
  have e2 : Fin.ofNat 512 (B + q.val) = q := Fin.ext (by show (B + q.val) % 512 = q.val; omega)
  unfold gEntry
  rw [e0, e1, e2, Nat.cast_add]

theorem dza_entry (c : Dev nD) (t : Fin cfg0.N) (h : t.val < 864) (r : Fin 1024) (q : Fin 512) :
    dza m c t (ix2 r q) = gEntry (zArg m c) (recArg m c) (finArg m c) (t.val / 48 * 1024 + r.val) (t.val % 48 * 1024 + q.val) := by
  unfold dza
  exact tile_entry (zArg m c) (recArg m c) (finArg m c) (t.val / 48 * 1024) (t.val % 48 * 1024) (2 * t.val + 1) _ 1 _ _ _ r q (pay5_ideal t)
    (by omega) (by omega) (by omega) (fun a => iblk_z m c t 1 a r q) (fun l => iblk_rec_a m c t h r l) (fun l => iblk_fin_a m c t h r l)

theorem dzb_entry (c : Dev nD) (t : Fin cfg0.N) (h : t.val ≠ 0) (r : Fin 1024) (q : Fin 512) :
    dzb m c t (ix2 r q) = gEntry (zArg m c) (recArg m c) (finArg m c) ((t.val - 1) / 48 * 1024 + r.val) ((t.val - 1) % 48 * 1024 + 512 + q.val) := by
  unfold dzb
  exact tile_entry (zArg m c) (recArg m c) (finArg m c) ((t.val - 1) / 48 * 1024) ((t.val - 1) % 48 * 1024 + 512) (2 * t.val) _ 0 _ _ _ r q (pay4_ideal t)
    (by omega) (by omega) (by omega) (fun a => iblk_z m c t 0 a r q) (fun l => iblk_rec_b m c t r l) (fun l => iblk_fin_b m c t r l)

/-! ## The sum -/

/-- The gradient at an entry, over the first `k` words of the vocabulary. -/
def gradTo (z : FVec Ideal S1730x2x1024x512 .f32) (w : FVec Ideal S49152x2048 .bf16) (rec fin : FVec Ideal S18432x128 .f32) (R : ℕ) (d : Fin 2048) (k : ℕ) : EReal :=
  ∑ n ∈ Finset.range k, gEntry z rec fin R n * wAt w n d

theorem gradTo_block (z : FVec Ideal S1730x2x1024x512 .f32) (w : FVec Ideal S49152x2048 .bf16) (rec fin : FVec Ideal S18432x128 .f32) (R : ℕ) (d : Fin 2048) (k : ℕ) :
    gradTo z w rec fin R d ((k + 1) * 1024)
      = gradTo z w rec fin R d (k * 1024) + ∑ q : Fin 512, gEntry z rec fin R (k * 1024 + q.val) * wAt w (k * 1024 + q.val) d
        + ∑ q : Fin 512, gEntry z rec fin R (k * 1024 + 512 + q.val) * wAt w (k * 1024 + 512 + q.val) d := by
  unfold gradTo
  rw [show (k + 1) * 1024 = k * 1024 + 512 + 512 by omega, Finset.sum_range_add, Finset.sum_range_add,
    Fin.sum_univ_eq_sum_range (fun q => gEntry z rec fin R (k * 1024 + q) * wAt w (k * 1024 + q) d),
    Fin.sum_univ_eq_sum_range (fun q => gEntry z rec fin R (k * 1024 + 512 + q) * wAt w (k * 1024 + 512 + q) d)]

theorem step_entry (c : Dev nD) (t : Fin cfg0.N) (h0 : t.val ≠ 0) (acc : Vec Ideal S1024x2048 .f32) (r : Fin 1024) (d : Fin 2048)
    (hacc : acc (ix2 r d) = gradTo (zArg m c) (wArg m c) (recArg m c) (finArg m c) ((t.val - 1) / 48 * 1024 + r.val) d ((t.val - 1) % 48 * 1024)) :
    dxStep (F := Ideal) (iblk m c 1 t) acc (dza m c ⟨t.val - 1, by omega⟩) (dzb m c t) (ix2 r d)
      = gradTo (zArg m c) (wArg m c) (recArg m c) (finArg m c) ((t.val - 1) / 48 * 1024 + r.val) d (((t.val - 1) % 48 + 1) * 1024) := by
  have ht := t.isLt
  have hN := hN
  have s1 (q : Fin 512) : (dza m c ⟨t.val - 1, by omega⟩ (ix2 r q) * iblk m c 1 t (ix2 (Fin.ofNat 1024 q.val) d) : EReal)
      = gEntry (zArg m c) (recArg m c) (finArg m c) ((t.val - 1) / 48 * 1024 + r.val) ((t.val - 1) % 48 * 1024 + q.val)
        * wAt (wArg m c) ((t.val - 1) % 48 * 1024 + q.val) d := by
    have e : (Fin.ofNat 1024 q.val).val = q.val := Nat.mod_eq_of_lt (by omega)
    rw [dza_entry m c ⟨t.val - 1, by omega⟩ (by show t.val - 1 < 864; omega), iblk_w, e]
  have s2 (q : Fin 512) : (dzb m c t (ix2 r q) * iblk m c 1 t (ix2 (Fin.ofNat 1024 (512 + q.val)) d) : EReal)
      = gEntry (zArg m c) (recArg m c) (finArg m c) ((t.val - 1) / 48 * 1024 + r.val) ((t.val - 1) % 48 * 1024 + 512 + q.val)
        * wAt (wArg m c) ((t.val - 1) % 48 * 1024 + 512 + q.val) d := by
    have e : (Fin.ofNat 1024 (512 + q.val)).val = 512 + q.val := Nat.mod_eq_of_lt (by omega)
    rw [dzb_entry m c t h0, iblk_w, e, ← Nat.add_assoc]
  refine (dxStep_apply _ _ _ _ r d).trans ?_
  rw [gradTo_block, hacc, Finset.sum_congr rfl (fun q _ => s1 q), Finset.sum_congr rfl (fun q _ => s2 q)]

/-- After point `48 T + k + 1` the output block holds the sum over the first `1024 (k + 1)` words. -/
theorem dxAt_entry (c : Dev nD) (r : Fin 1024) (d : Fin 2048) (T : ℕ) : ∀ (k : ℕ) (hk : k < 48) (h : 48 * T + k + 1 < cfg0.N),
    dxAt m c (48 * T + k + 1) h (ix2 r d) = gradTo (zArg m c) (wArg m c) (recArg m c) (finArg m c) (T * 1024 + r.val) d ((k + 1) * 1024)
  | 0, hk, h => by
    rw [show dxAt m c (48 * T + 0 + 1) h = dxStep _ k0_pay3 _ _ from dxAt_reset m c ⟨48 * T + 0 + 1, h⟩ (by show 48 * T + 0 + 1 ≠ 0; omega) (by show (48 * T + 0 + 1) % 48 = 1; omega)]
    have e := step_entry m c ⟨48 * T + 0 + 1, h⟩ (by show 48 * T + 0 + 1 ≠ 0; omega) (k0_pay3 (F := Ideal)) r d
      (by
        show Ideal.ofBits .f32 0x00000000#32 = gradTo _ _ _ _ _ d ((48 * T + 0 + 1 - 1) % 48 * 1024)
        rw [show (48 * T + 0 + 1 - 1) % 48 * 1024 = 0 by omega, Ideal.ofBits_zero_f32]
        unfold gradTo; rw [Finset.sum_range_zero])
    refine e.trans ?_
    show gradTo _ _ _ _ ((48 * T + 0 + 1 - 1) / 48 * 1024 + r.val) d (((48 * T + 0 + 1 - 1) % 48 + 1) * 1024) = _
    rw [show (48 * T + 0 + 1 - 1) / 48 = T by omega, show (48 * T + 0 + 1 - 1) % 48 = 0 by omega]
  | k + 1, hk, h => by
    rw [show dxAt m c (48 * T + (k + 1) + 1) h = dxStep _ (dxAt m c (48 * T + (k + 1) + 1 - 1) (by omega)) _ _ from
      dxAt_acc m c ⟨48 * T + (k + 1) + 1, h⟩ (by show 48 * T + (k + 1) + 1 ≠ 0; omega) (by show ¬(48 * T + (k + 1) + 1) % 48 = 1; omega)]
    have e := step_entry m c ⟨48 * T + (k + 1) + 1, h⟩ (by show 48 * T + (k + 1) + 1 ≠ 0; omega) (dxAt m c (48 * T + (k + 1) + 1 - 1) (by omega)) r d
      (by
        show _ = gradTo _ _ _ _ ((48 * T + (k + 1) + 1 - 1) / 48 * 1024 + r.val) d ((48 * T + (k + 1) + 1 - 1) % 48 * 1024)
        rw [show (48 * T + (k + 1) + 1 - 1) / 48 = T by omega, show (48 * T + (k + 1) + 1 - 1) % 48 = k + 1 by omega]
        exact dxAt_entry c r d T k (by omega) (by omega))
    refine e.trans ?_
    show gradTo _ _ _ _ ((48 * T + (k + 1) + 1 - 1) / 48 * 1024 + r.val) d (((48 * T + (k + 1) + 1 - 1) % 48 + 1) * 1024) = _
    rw [show (48 * T + (k + 1) + 1 - 1) / 48 = T by omega, show (48 * T + (k + 1) + 1 - 1) % 48 = k + 1 by omega]

/-! ## The result array -/

/-- The gradient of the tokens' vectors, as one array of the arguments. -/
def gradOut (z : FVec Ideal S1730x2x1024x512 .f32) (w : FVec Ideal S49152x2048 .bf16) (rec fin : FVec Ideal S18432x128 .f32) : FVec Ideal S18432x2048 .f32 :=
  fun i => gradTo z w rec fin (i 0).val (i 1) 49152

theorem flushed_eq (c : Dev nD) (t : Fin cfg0.N) (hf : (cfg0.win 6).flush t = true) :
    (dats m 0 c).flushed 6 t = ((cfg0.win 6).blk t).view.read (Elt Ideal) (gradOut (zArg m c) (wArg m c) (recArg m c) (finArg m c)) := by
  show (cfg0.win 6).cut (grid0.coords t) ((dats m 0 c).after 6 t) = _
  rw [after0_6]
  obtain ⟨h0, h1⟩ := (flush0_6 t).mp hf
  obtain ⟨i0, i1⟩ := index0_6 t
  have hN := hN
  have ht := t.isLt
  have e (j : S1024x2048.Idx) : dxAt m c t.val t.isLt (ix2 (j 0) (j 1))
      = gradTo (zArg m c) (wArg m c) (recArg m c) (finArg m c) ((t.val - 1) / 48 * 1024 + (j 0).val) (j 1) 49152 := by
    have hT : 48 * ((t.val - 1) / 48) + 47 + 1 = t.val := by omega
    have h := dxAt_entry m c (j 0) (j 1) ((t.val - 1) / 48) 47 (by decide) (by omega)
    simp only [hT] at h
    exact h
  generalize dxAt m c t.val t.isLt = X at e
  have hout : ∀ i : S18432x2048.Idx, gradOut (zArg m c) (wArg m c) (recArg m c) (finArg m c) i = gradTo (zArg m c) (wArg m c) (recArg m c) (finArg m c) (i 0).val (i 1) 49152 := fun _ => rfl
  generalize gradOut (zArg m c) (wArg m c) (recArg m c) (finArg m c) = G at hout
  generalize gradTo (zArg m c) (wArg m c) (recArg m c) (finArg m c) = g at e hout
  funext j
  rw [View.read_apply]
  have hj : X (ix2 (j 0) (j 1)) = X j := congrArg X (by
    funext a; match a with
    | ⟨0, _⟩ => rfl
    | ⟨1, _⟩ => rfl)
  have hl : (cfg0.win 6).cut (grid0.coords t) X j = X j := rfl
  refine hl.trans (hj.symm.trans ((e j).trans ?_))
  refine Eq.trans ?_ (hout _).symm
  have a0 : ((((cfg0.win 6).blk t).view.emb j) 0).val = (t.val - 1) / 48 * 1024 + (j 0).val := by
    show win0_6.index t 0 * 1024 + 1 * (j 0).val = _
    rw [i0]; omega
  have a1 : (((cfg0.win 6).blk t).view.emb j) 1 = j 1 := Fin.ext (by
    show win0_6.index t 1 * 2048 + 1 * (j 1).val = (j 1).val
    rw [i1]; omega)
  rw [a1]
  exact congrArg (fun n => g n (j 1) 49152) a0.symm

theorem xsize0_6 : ∀ t : Fin cfg0.N, win0_6.xsize (grid0.coords t) 0 = 1024 ∧ win0_6.xsize (grid0.coords t) 1 = 2048 :=
  (by decide +kernel : ∀ t : Fin grid0.N, win0_6.xsize (grid0.coords t) 0 = 1024 ∧ win0_6.xsize (grid0.coords t) 1 = 2048)

theorem final_o (c : Dev nD) : (dats m 0 c).arrAt 6 cfg0.N = gradOut (zArg m c) (wArg m c) (recArg m c) (finArg m c) :=
  (dats m 0 c).arrAt_eq_of_cover 6 (gradOut (zArg m c) (wArg m c) (recArg m c) (finArg m c)) (flushed_eq m c) fun i => by
    have h0 : (i 0 : Nat) < 18432 := (i 0).isLt
    have h1 : (i 1 : Nat) < 2048 := (i 1).isLt
    have hN := hN
    obtain ⟨t, ht⟩ : ∃ t : Fin cfg0.N, t.val = 48 * ((i 0 : Nat) / 1024) + 48 := ⟨⟨48 * ((i 0 : Nat) / 1024) + 48, by omega⟩, rfl⟩
    refine ⟨t, (flush0_6 t).mpr (by omega), ?_⟩
    show i ∈ ((View.whole main_v0).slice (win0_6.rect t)).set
    rw [View.set_slice_whole, Rect.mem_set_unit]
    obtain ⟨i0, i1⟩ := index0_6 t
    obtain ⟨x0, x1⟩ := xsize0_6 t
    intro a
    match a with
    | ⟨0, _⟩ => show win0_6.index t 0 * 1024 ≤ (i 0 : Nat) ∧ (i 0 : Nat) < win0_6.index t 0 * 1024 + win0_6.xsize (grid0.coords t) 0
                rw [i0, x0, ht]; omega
    | ⟨1, _⟩ => show win0_6.index t 1 * 2048 ≤ (i 1 : Nat) ∧ (i 1 : Nat) < win0_6.index t 1 * 2048 + win0_6.xsize (grid0.coords t) 1
                rw [i1, x1]; omega

/-- The kernel's run over the extended reals: the result is the gradient, and the arguments are kept. -/
theorem run : θ_run defs (onTc (τ := τ) (main (F := Ideal))) ⟨m, fun _ => 0, ρ⟩ fun r => ∀ c : Dev nD,
      r.2.mem ((c.tc : Thread nD τ).loc main_v0) = gradOut (zArg m c) (wArg m c) (recArg m c) (finArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 6).trans (final_o m c), ((h c).1 0).trans ((dats m 0 c).arrAt_in 0 rfl _),
    ((h c).1 1).trans ((dats m 0 c).arrAt_in 1 rfl _), ((h c).1 2).trans ((dats m 0 c).arrAt_in 2 rfl _),
    ((h c).1 3).trans ((dats m 0 c).arrAt_in 3 rfl _)⟩) (run_main m ρ)

end Cert.BwdIdeal.Hand

end
-- ==== Proof.BwdBits.lean ====
/- The frame of the gradient call on bits. The run of `BwdIdeal` is proved for any float values, and the two printed
   programs are the same text: their body tables are equal, and the frame of one is the frame of the other. -/
module

public import proofs.«01_k».proof.Defs
public import proofs.«01_k».proof.Proof.Gen.Bwd
public import proofs.«01_k».proof.Proof.BwdFrame

@[expose] public section

set_option maxRecDepth 16384
set_option maxHeartbeats 1000000

noncomputable section

namespace Cert.Proof

open Idealize.ShloMosaic Idealize.SL.Sem

local instance : Cert.Bwd.Facts := Cert.Bwd.Gen.facts

/-- The two bodies are the same program. -/
theorem bwd_body_eq : @Cert.Bwd.cc0_bwd Bits _ _ = @Cert.BwdIdeal.cc0_bwd Bits _ _ := rfl

/-- So are the two tables of kernel bodies. -/
theorem bwd_defs_eq : Cert.Bwd.defs₀ (F := Bits) = Cert.BwdIdeal.defs₀ (F := Bits) := by
  unfold Cert.Bwd.defs₀ Cert.BwdIdeal.defs₀
  refine congrArg Defs.onTc ?_
  funext l a
  match l, a with
  | 0, (t, s) =>
    show @Cert.Bwd.cc0_bwd Bits _ _ _ _ _ _ _ _ _ _ _ _ _ _ _ _ _ _ _ _ _ = _
    rw [bwd_body_eq]
    rfl

/-- The gradient call on bits runs, leaves its arguments as they were and ends quiescent. -/
theorem bwd_frame : quiescent_Bwd (hBwd := Cert.Bwd.Gen.facts) := fun m ρ _ => by
  have h := Cert.BwdIdeal.Hand.frame (F := Bits) m ρ
  unfold Cert.BwdIdeal.defs at h
  rw [← bwd_defs_eq] at h
  exact h

end Cert.Proof

end
-- ==== Proof.FwdTile.lean ====
/- What `FwdIdeal`'s body does to its running statistics over one half tile of scores, as plain functions of the blocks it reads. -/
module

public import proofs.«01_k».proof.Proof.Gen.FwdIdeal.Skeleton
public import Idealize.ShloMosaic.Lib.Pipeline.ReadBack
public import Idealize.ShloMosaic.Lib.Tactic
public import Idealize.ShloMosaic.Lib.Pointwise

@[expose] public section

set_option maxRecDepth 16384

noncomputable section

namespace Cert.FwdIdeal.Hand

open Idealize.ShloMosaic Idealize.ShloMosaic.TcCoe
open Cert.FwdIdeal Cert.FwdIdeal.Gen

variable {F : FTy → Type} [FloatOps F]

/-! ## The statistics at an index -/

/-- The running maximum after four more entries. -/
def mx4 (s a b c d : F .f32) : F .f32 :=
  FloatOps.maximumf (FloatOps.maximumf (FloatOps.maximumf (FloatOps.maximumf s a) b) c) d

/-- The running sum of exponentials after four more entries, rescaled to the new maximum. -/
def sm4 (m0 s a b c d : F .f32) : F .f32 :=
  FloatOps.addf (FloatOps.addf (FloatOps.addf (FloatOps.addf (FloatOps.mulf s (FloatOps.exp (FloatOps.subf m0 (mx4 m0 a b c d))))
    (FloatOps.exp (FloatOps.subf a (mx4 m0 a b c d)))) (FloatOps.exp (FloatOps.subf b (mx4 m0 a b c d))))
    (FloatOps.exp (FloatOps.subf c (mx4 m0 a b c d)))) (FloatOps.exp (FloatOps.subf d (mx4 m0 a b c d)))

/-- The running sum of exponentials times differences after four more entries. -/
def tm4 (m0 t a b c d a' b' c' d' : F .f32) : F .f32 :=
  FloatOps.addf (FloatOps.addf (FloatOps.addf (FloatOps.addf (FloatOps.mulf t (FloatOps.exp (FloatOps.subf m0 (mx4 m0 a b c d))))
    (FloatOps.mulf (FloatOps.exp (FloatOps.subf a (mx4 m0 a b c d))) (FloatOps.subf a a')))
    (FloatOps.mulf (FloatOps.exp (FloatOps.subf b (mx4 m0 a b c d))) (FloatOps.subf b b')))
    (FloatOps.mulf (FloatOps.exp (FloatOps.subf c (mx4 m0 a b c d))) (FloatOps.subf c c')))
    (FloatOps.mulf (FloatOps.exp (FloatOps.subf d (mx4 m0 a b c d))) (FloatOps.subf d d'))

/-- The running target score after four more entries: the entry whose column is the target's is added. -/
def hm4 (tgt lane s a b c d : F .f32) : F .f32 :=
  FloatOps.addf (FloatOps.addf (FloatOps.addf (FloatOps.addf s
    (Scalar.select (FloatOps.cmpf .oeq tgt (FloatOps.addf lane (Scalar.ofBits .f32 0x00000000#32))) a (Scalar.ofBits .f32 0x00000000#32)))
    (Scalar.select (FloatOps.cmpf .oeq tgt (FloatOps.addf lane (Scalar.ofBits .f32 0x43000000#32))) b (Scalar.ofBits .f32 0x00000000#32)))
    (Scalar.select (FloatOps.cmpf .oeq tgt (FloatOps.addf lane (Scalar.ofBits .f32 0x43800000#32))) c (Scalar.ofBits .f32 0x00000000#32)))
    (Scalar.select (FloatOps.cmpf .oeq tgt (FloatOps.addf lane (Scalar.ofBits .f32 0x43C00000#32))) d (Scalar.ofBits .f32 0x00000000#32))

/-- Column `p + l` of a half tile. -/
def cL (p : ℕ) (hp : p ≤ 384) (l : Fin 128) : Fin 512 := ⟨p + l.val, by omega⟩

/-- The scaled score at a row and a column. -/
def zpAt (accp : Vec F S1024x512 .f32) (wps : Vec F S1x1x512 .f32) (rec : Vec F S1024x128 .f32) (R : Fin 1024) (c : Fin 512) : F .f32 :=
  FloatOps.mulf (accp (ix2 R c)) (FloatOps.mulf (rec (ix2 R (0 : Fin 128))) (wps (ix3 (0 : Fin 1) (0 : Fin 1) c)))

/-- Statistic `k` of row `R` and lane `l` after a half tile. -/
def epiAt (base : F .f32) (accp accq : Vec F S1024x512 .f32) (wps : Vec F S1x1x512 .f32) (rec : Vec F S1024x128 .f32) (st : Vec F S7x1024x128 .f32)
    (k : ℕ) (R : Fin 1024) (l : Fin 128) : F .f32 :=
  match k with
  | 0 => mx4 (st (ix3 (0 : Fin 7) R l)) (zpAt accp wps rec R (cL 0 (by decide) l)) (zpAt accp wps rec R (cL 128 (by decide) l)) (zpAt accp wps rec R (cL 256 (by decide) l)) (zpAt accp wps rec R (cL 384 (by decide) l))
  | 1 => mx4 (st (ix3 (1 : Fin 7) R l)) (accq (ix2 R (cL 0 (by decide) l))) (accq (ix2 R (cL 128 (by decide) l))) (accq (ix2 R (cL 256 (by decide) l))) (accq (ix2 R (cL 384 (by decide) l)))
  | 2 => sm4 (st (ix3 (0 : Fin 7) R l)) (st (ix3 (2 : Fin 7) R l)) (zpAt accp wps rec R (cL 0 (by decide) l)) (zpAt accp wps rec R (cL 128 (by decide) l)) (zpAt accp wps rec R (cL 256 (by decide) l)) (zpAt accp wps rec R (cL 384 (by decide) l))
  | 3 => sm4 (st (ix3 (1 : Fin 7) R l)) (st (ix3 (3 : Fin 7) R l)) (accq (ix2 R (cL 0 (by decide) l))) (accq (ix2 R (cL 128 (by decide) l))) (accq (ix2 R (cL 256 (by decide) l))) (accq (ix2 R (cL 384 (by decide) l)))
  | 4 => tm4 (st (ix3 (0 : Fin 7) R l)) (st (ix3 (4 : Fin 7) R l)) (zpAt accp wps rec R (cL 0 (by decide) l)) (zpAt accp wps rec R (cL 128 (by decide) l)) (zpAt accp wps rec R (cL 256 (by decide) l)) (zpAt accp wps rec R (cL 384 (by decide) l)) (accq (ix2 R (cL 0 (by decide) l))) (accq (ix2 R (cL 128 (by decide) l))) (accq (ix2 R (cL 256 (by decide) l))) (accq (ix2 R (cL 384 (by decide) l)))
  | 5 => hm4 (FloatOps.subf (rec (ix2 R (1 : Fin 128))) base) (FloatOps.sitofp .f32 (BitVec.ofNat 32 l.val)) (st (ix3 (5 : Fin 7) R l)) (zpAt accp wps rec R (cL 0 (by decide) l)) (zpAt accp wps rec R (cL 128 (by decide) l)) (zpAt accp wps rec R (cL 256 (by decide) l)) (zpAt accp wps rec R (cL 384 (by decide) l))
  | _ => hm4 (FloatOps.subf (rec (ix2 R (1 : Fin 128))) base) (FloatOps.sitofp .f32 (BitVec.ofNat 32 l.val)) (st (ix3 (6 : Fin 7) R l)) (accq (ix2 R (cL 0 (by decide) l))) (accq (ix2 R (cL 128 (by decide) l))) (accq (ix2 R (cL 256 (by decide) l))) (accq (ix2 R (cL 384 (by decide) l)))

/-- All the statistics after a half tile. -/
def epi (base : F .f32) (accp accq : Vec F S1024x512 .f32) (wps : Vec F S1x1x512 .f32) (rec : Vec F S1024x128 .f32) (st : Vec F S7x1024x128 .f32) :
    Vec F S7x1024x128 .f32 := fun y => epiAt base accp accq wps rec st (y 0).val (y 1) (y 2)

theorem epi_0 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (0 : Fin 7) R l) = mx4 (st (ix3 (0 : Fin 7) R l)) (zpAt accp wps rec R (cL 0 (by decide) l)) (zpAt accp wps rec R (cL 128 (by decide) l)) (zpAt accp wps rec R (cL 256 (by decide) l)) (zpAt accp wps rec R (cL 384 (by decide) l)) := rfl
theorem epi_1 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (1 : Fin 7) R l) = mx4 (st (ix3 (1 : Fin 7) R l)) (accq (ix2 R (cL 0 (by decide) l))) (accq (ix2 R (cL 128 (by decide) l))) (accq (ix2 R (cL 256 (by decide) l))) (accq (ix2 R (cL 384 (by decide) l))) := rfl
theorem epi_2 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (2 : Fin 7) R l) = sm4 (st (ix3 (0 : Fin 7) R l)) (st (ix3 (2 : Fin 7) R l)) (zpAt accp wps rec R (cL 0 (by decide) l)) (zpAt accp wps rec R (cL 128 (by decide) l)) (zpAt accp wps rec R (cL 256 (by decide) l)) (zpAt accp wps rec R (cL 384 (by decide) l)) := rfl
theorem epi_3 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (3 : Fin 7) R l) = sm4 (st (ix3 (1 : Fin 7) R l)) (st (ix3 (3 : Fin 7) R l)) (accq (ix2 R (cL 0 (by decide) l))) (accq (ix2 R (cL 128 (by decide) l))) (accq (ix2 R (cL 256 (by decide) l))) (accq (ix2 R (cL 384 (by decide) l))) := rfl
theorem epi_4 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (4 : Fin 7) R l) = tm4 (st (ix3 (0 : Fin 7) R l)) (st (ix3 (4 : Fin 7) R l)) (zpAt accp wps rec R (cL 0 (by decide) l)) (zpAt accp wps rec R (cL 128 (by decide) l)) (zpAt accp wps rec R (cL 256 (by decide) l)) (zpAt accp wps rec R (cL 384 (by decide) l)) (accq (ix2 R (cL 0 (by decide) l))) (accq (ix2 R (cL 128 (by decide) l))) (accq (ix2 R (cL 256 (by decide) l))) (accq (ix2 R (cL 384 (by decide) l))) := rfl
theorem epi_5 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (5 : Fin 7) R l) = hm4 (FloatOps.subf (rec (ix2 R (1 : Fin 128))) base) (FloatOps.sitofp .f32 (BitVec.ofNat 32 l.val)) (st (ix3 (5 : Fin 7) R l)) (zpAt accp wps rec R (cL 0 (by decide) l)) (zpAt accp wps rec R (cL 128 (by decide) l)) (zpAt accp wps rec R (cL 256 (by decide) l)) (zpAt accp wps rec R (cL 384 (by decide) l)) := rfl
theorem epi_6 (base : F .f32) (accp accq : Vec F S1024x512 .f32) (wps : Vec F S1x1x512 .f32) (rec : Vec F S1024x128 .f32) (st : Vec F S7x1024x128 .f32) (R : Fin 1024) (l : Fin 128) :
    epi base accp accq wps rec st (ix3 (6 : Fin 7) R l) = hm4 (FloatOps.subf (rec (ix2 R (1 : Fin 128))) base) (FloatOps.sitofp .f32 (BitVec.ofNat 32 l.val)) (st (ix3 (6 : Fin 7) R l)) (accq (ix2 R (cL 0 (by decide) l))) (accq (ix2 R (cL 128 (by decide) l))) (accq (ix2 R (cL 256 (by decide) l))) (accq (ix2 R (cL 384 (by decide) l))) := rfl
theorem mx4_congr {a0 a1 a2 a3 a4 b0 b1 b2 b3 b4 : F .f32} (h0 : a0 = b0) (h1 : a1 = b1) (h2 : a2 = b2) (h3 : a3 = b3) (h4 : a4 = b4) : mx4 a0 a1 a2 a3 a4 = mx4 b0 b1 b2 b3 b4 := by
  subst h0; subst h1; subst h2; subst h3; subst h4; rfl
theorem sm4_congr {a0 a1 a2 a3 a4 a5 b0 b1 b2 b3 b4 b5 : F .f32} (h0 : a0 = b0) (h1 : a1 = b1) (h2 : a2 = b2) (h3 : a3 = b3) (h4 : a4 = b4) (h5 : a5 = b5) : sm4 a0 a1 a2 a3 a4 a5 = sm4 b0 b1 b2 b3 b4 b5 := by
  subst h0; subst h1; subst h2; subst h3; subst h4; subst h5; rfl
theorem tm4_congr {a0 a1 a2 a3 a4 a5 a6 a7 a8 a9 b0 b1 b2 b3 b4 b5 b6 b7 b8 b9 : F .f32} (h0 : a0 = b0) (h1 : a1 = b1) (h2 : a2 = b2) (h3 : a3 = b3) (h4 : a4 = b4) (h5 : a5 = b5) (h6 : a6 = b6) (h7 : a7 = b7) (h8 : a8 = b8) (h9 : a9 = b9) : tm4 a0 a1 a2 a3 a4 a5 a6 a7 a8 a9 = tm4 b0 b1 b2 b3 b4 b5 b6 b7 b8 b9 := by
  subst h0; subst h1; subst h2; subst h3; subst h4; subst h5; subst h6; subst h7; subst h8; subst h9; rfl
theorem hm4_congr {a0 a1 a2 a3 a4 a5 a6 b0 b1 b2 b3 b4 b5 b6 : F .f32} (h0 : a0 = b0) (h1 : a1 = b1) (h2 : a2 = b2) (h3 : a3 = b3) (h4 : a4 = b4) (h5 : a5 = b5) (h6 : a6 = b6) : hm4 a0 a1 a2 a3 a4 a5 a6 = hm4 b0 b1 b2 b3 b4 b5 b6 := by
  subst h0; subst h1; subst h2; subst h3; subst h4; subst h5; subst h6; rfl

/-- What a statistic starts a row of tiles with: the word of minus infinity for the maxima, of zero for the rest. -/
def stBits (k : ℕ) : BitVec 32 := if k < 2 then 0xFF800000#32 else 0x00000000#32

/-- The statistics a half tile starts from: fresh ones where the flag says so. -/
def selSt (v1 : BitVec 1) (st : Vec F S7x1024x128 .f32) : Vec F S7x1024x128 .f32 :=
  fun y => Scalar.select v1 (Scalar.ofBits .f32 (stBits (y 0).val)) (st y)

/-! ## The body's vector operations -/

def xsV (rec : Vec F S16x128 .f32) : FVec F S16x128 .f32 :=
  broadcastTo S16x128 (shapeCast S16x1 (extractStridedSlice S16x1 ![0, 0] rec slices_S16x128_o0_0_S16x1) shapeCasts_S16x1_S16x1) broadcasts_S16x1_S16x128

def tgV (base : F .f32) (rec : Vec F S16x128 .f32) : FVec F S16x128 .f32 :=
  subf (broadcastTo S16x128 (shapeCast S16x1 (extractStridedSlice S16x1 ![0, 1] rec slices_S16x128_o0_1_S16x1) shapeCasts_S16x1_S16x1) broadcasts_S16x1_S16x128)
    (broadcast S16x128 base)

def zpV (rec : Vec F S16x128 .f32) (w : Vec F S1x1x128 .f32) (a : Vec F S16x128 .f32) : FVec F S16x128 .f32 :=
  mulf a (mulf (xsV rec) (broadcastTo S16x128 (shapeCast S1x128 w shapeCasts_S1x1x128_S1x128) broadcasts_S1x128_S16x128))

def mxV (s a b c d : FVec F S16x128 .f32) : FVec F S16x128 .f32 := maximumf (maximumf (maximumf (maximumf s a) b) c) d

def smV (m0 s a b c d : FVec F S16x128 .f32) : FVec F S16x128 .f32 :=
  addf (addf (addf (addf (mulf s (exp (subf m0 (mxV m0 a b c d)))) (exp (subf a (mxV m0 a b c d)))) (exp (subf b (mxV m0 a b c d))))
    (exp (subf c (mxV m0 a b c d)))) (exp (subf d (mxV m0 a b c d)))

def tmV (m0 t a b c d a' b' c' d' : FVec F S16x128 .f32) : FVec F S16x128 .f32 :=
  addf (addf (addf (addf (mulf t (exp (subf m0 (mxV m0 a b c d)))) (mulf (exp (subf a (mxV m0 a b c d))) (subf a a')))
    (mulf (exp (subf b (mxV m0 a b c d))) (subf b b'))) (mulf (exp (subf c (mxV m0 a b c d))) (subf c c'))) (mulf (exp (subf d (mxV m0 a b c d))) (subf d d'))

def hmV (tgt s a b c d : FVec F S16x128 .f32) : FVec F S16x128 .f32 :=
  addf (addf (addf (addf s
    (select (cmpf .oeq tgt (addf (k0_pay24 (F := F)) (broadcast S16x128 (Scalar.ofBits .f32 0x00000000#32)))) a (broadcast S16x128 (Scalar.ofBits .f32 0x00000000#32))))
    (select (cmpf .oeq tgt (addf (k0_pay24 (F := F)) (broadcast S16x128 (Scalar.ofBits .f32 0x43000000#32)))) b (broadcast S16x128 (Scalar.ofBits .f32 0x00000000#32))))
    (select (cmpf .oeq tgt (addf (k0_pay24 (F := F)) (broadcast S16x128 (Scalar.ofBits .f32 0x43800000#32)))) c (broadcast S16x128 (Scalar.ofBits .f32 0x00000000#32))))
    (select (cmpf .oeq tgt (addf (k0_pay24 (F := F)) (broadcast S16x128 (Scalar.ofBits .f32 0x43C00000#32)))) d (broadcast S16x128 (Scalar.ofBits .f32 0x00000000#32)))

/-- A loaded statistic, as the first half tile's epilogue uses it. -/
def stV (x : Vec F S1x16x128 .f32) : FVec F S16x128 .f32 := shapeCast S16x128 x shapeCasts_S1x16x128_S16x128

/-- A loaded statistic, as the second half tile's epilogue uses it. -/
def stW (v1 : BitVec 1) (k : ℕ) (x : Vec F S1x16x128 .f32) : FVec F S16x128 .f32 :=
  Scalar.select v1 (broadcast S16x128 (Scalar.ofBits .f32 (stBits k))) (shapeCast S16x128 x shapeCasts_S1x16x128_S16x128)

/-- A statistic as it is stored. -/
def upV (x : FVec F S16x128 .f32) : FVec F S1x16x128 .f32 := shapeCast S1x16x128 x shapeCasts_S16x128_S1x16x128

theorem upV_apply (x : FVec F S16x128 .f32) (z : Fin 1) (r : Fin 16) (l : Fin 128) : upV x (ix3 z r l) = x (ix2 r l) := by
  unfold upV; pointwise
theorem stV_apply (x : Vec F S1x16x128 .f32) (r : Fin 16) (l : Fin 128) : stV x (ix2 r l) = x (ix3 (0 : Fin 1) r l) := by
  unfold stV; pointwise
theorem stW_apply (v1 : BitVec 1) (k : ℕ) (x : Vec F S1x16x128 .f32) (r : Fin 16) (l : Fin 128) :
    stW v1 k x (ix2 r l) = Scalar.select v1 (Scalar.ofBits .f32 (stBits k)) (x (ix3 (0 : Fin 1) r l)) := by
  have h : ∀ (b : BitVec 1) (X Y : FVec F S16x128 .f32) (j : S16x128.Idx), (Scalar.select b X Y) j = Scalar.select b (X j) (Y j) := by
    intro b X Y j; unfold Scalar.select; split <;> rfl
  unfold stW; rw [h]
  exact congrArg (Scalar.select v1 _) (stV_apply x r l)
theorem zpV_apply (rec : Vec F S16x128 .f32) (w : Vec F S1x1x128 .f32) (a : Vec F S16x128 .f32) (r : Fin 16) (l : Fin 128) :
    zpV rec w a (ix2 r l) = FloatOps.mulf (a (ix2 r l)) (FloatOps.mulf (rec (ix2 r (0 : Fin 128))) (w (ix3 (0 : Fin 1) (0 : Fin 1) l))) := by
  unfold zpV xsV; pointwise
theorem tgV_apply (base : F .f32) (rec : Vec F S16x128 .f32) (r : Fin 16) (l : Fin 128) :
    tgV base rec (ix2 r l) = FloatOps.subf (rec (ix2 r (1 : Fin 128))) base := by
  unfold tgV; pointwise
theorem mxV_apply (s a b c d : FVec F S16x128 .f32) (j : S16x128.Idx) : mxV s a b c d j = mx4 (s j) (a j) (b j) (c j) (d j) := rfl
theorem smV_apply (m0 s a b c d : FVec F S16x128 .f32) (j : S16x128.Idx) : smV m0 s a b c d j = sm4 (m0 j) (s j) (a j) (b j) (c j) (d j) := rfl
theorem tmV_apply (m0 s a b c d a' b' c' d' : FVec F S16x128 .f32) (j : S16x128.Idx) :
    tmV m0 s a b c d a' b' c' d' j = tm4 (m0 j) (s j) (a j) (b j) (c j) (d j) (a' j) (b' j) (c' j) (d' j) := rfl
theorem hmV_apply (tgt s a b c d : FVec F S16x128 .f32) (r : Fin 16) (l : Fin 128) :
    hmV tgt s a b c d (ix2 r l)
      = hm4 (tgt (ix2 r l)) (FloatOps.sitofp .f32 (BitVec.ofNat 32 l.val)) (s (ix2 r l)) (a (ix2 r l)) (b (ix2 r l)) (c (ix2 r l)) (d (ix2 r l)) := by
  unfold hmV hm4; pointwise [k0_pay24]

/-! ## Loads at an index -/

theorem inb2 {n w : ℕ} (o p : ℕ) (ho : o + 16 ≤ 1024) (hp : p + 128 ≤ w) : ∀ a, (![o, p] : Fin 2 → ℕ) a + S16x128.size a ≤ (![1024, w] : Fin 2 → ℕ) a :=
  fun a => by fin_cases a <;> first | exact ho | exact hp
theorem inb3 (k o : ℕ) (hk : k + 1 ≤ 7) (ho : o + 16 ≤ 1024) : ∀ a, (![k, o, 0] : Fin 3 → ℕ) a + S1x16x128.size a ≤ S7x1024x128.size a :=
  fun a => by fin_cases a <;> first | exact hk | exact ho | exact (le_refl 128 : 0 + 128 ≤ 128)
theorem inbw (p : ℕ) (hp : p ≤ 384) : ∀ a, (![0, 0, p] : Fin 3 → ℕ) a + S1x1x128.size a ≤ S1x1x512.size a :=
  fun a => by fin_cases a <;> first | exact (by omega : p + 128 ≤ 512) | exact (le_refl 1 : 0 + 1 ≤ 1)

/-- Row `o + r`. -/
def rI (o : ℕ) (ho : o + 16 ≤ 1024) (r : Fin 16) : Fin 1024 := ⟨o + r.val, by omega⟩

theorem ldA {v : View sig .tc .vmem S1024x512 .f32} {f : v.ty.Contents (Elt F)} {G : Vec F S1024x512 .f32} (h : v.read (Elt F) f = G)
    (o p : ℕ) (ho : o + 16 ≤ 1024) (hp : p ≤ 384) (i : ∀ a, (![o, p] : Fin 2 → ℕ) a + S16x128.size a ≤ S1024x512.size a) (r : Fin 16) (l : Fin 128) :
    View.readAt (Elt F) v (Rect.unit (s := S1024x512) ![o, p] S16x128.size i).toLoadRect f (ix2 r l) = G (ix2 (rI o ho r) (cL p hp l)) := by
  rw [View.readAt_eq_ld, h]; unfold View.ld; congr 1; funext a
  fin_cases a <;> (apply Fin.ext; simp [rI, cL, Rect.emb, LoadRect.idx, Rect.toLoadRect, Rect.unit, ix2])
theorem ldR {v : View sig .tc .vmem S1024x128 .f32} {f : v.ty.Contents (Elt F)} {G : Vec F S1024x128 .f32} (h : v.read (Elt F) f = G)
    (o : ℕ) (ho : o + 16 ≤ 1024) (i : ∀ a, (![o, 0] : Fin 2 → ℕ) a + S16x128.size a ≤ S1024x128.size a) (r : Fin 16) (l : Fin 128) :
    View.readAt (Elt F) v (Rect.unit (s := S1024x128) ![o, 0] S16x128.size i).toLoadRect f (ix2 r l) = G (ix2 (rI o ho r) l) := by
  rw [View.readAt_eq_ld, h]; unfold View.ld; congr 1; funext a
  fin_cases a <;> (apply Fin.ext; simp [rI, cL, Rect.emb, LoadRect.idx, Rect.toLoadRect, Rect.unit, ix2])
theorem ldW {v : View sig .tc .vmem S1x1x512 .f32} {f : v.ty.Contents (Elt F)} {G : Vec F S1x1x512 .f32} (h : v.read (Elt F) f = G)
    (p : ℕ) (hp : p ≤ 384) (i : ∀ a, (![0, 0, p] : Fin 3 → ℕ) a + S1x1x128.size a ≤ S1x1x512.size a) (l : Fin 128) :
    View.readAt (Elt F) v (Rect.unit (s := S1x1x512) ![0, 0, p] S1x1x128.size i).toLoadRect f (ix3 (0 : Fin 1) (0 : Fin 1) l)
      = G (ix3 (0 : Fin 1) (0 : Fin 1) (cL p hp l)) := by
  rw [View.readAt_eq_ld, h]; unfold View.ld; congr 1; funext a
  fin_cases a <;> (apply Fin.ext; simp [rI, cL, Rect.emb, LoadRect.idx, Rect.toLoadRect, Rect.unit, ix3])
theorem ldS {v : View sig .tc .vmem S7x1024x128 .f32} {f : v.ty.Contents (Elt F)} {G : Vec F S7x1024x128 .f32} (h : v.read (Elt F) f = G)
    (k : Fin 7) (o : ℕ) (ho : o + 16 ≤ 1024) (i : ∀ a, (![k.val, o, 0] : Fin 3 → ℕ) a + S1x16x128.size a ≤ S7x1024x128.size a) (r : Fin 16) (l : Fin 128) :
    View.readAt (Elt F) v (Rect.unit (s := S7x1024x128) ![k.val, o, 0] S1x16x128.size i).toLoadRect f (ix3 (0 : Fin 1) r l) = G (ix3 k (rI o ho r) l) := by
  rw [View.readAt_eq_ld, h]; unfold View.ld; congr 1; funext a
  fin_cases a <;> (apply Fin.ext; simp [rI, cL, Rect.emb, LoadRect.idx, Rect.toLoadRect, Rect.unit, ix3])
theorem embS (k : Fin 7) (o : ℕ) (ho : o + 16 ≤ 1024) (i : ∀ a, (![k.val, o, 0] : Fin 3 → ℕ) a + S1x16x128.size a ≤ S7x1024x128.size a) (z : Fin 1) (r : Fin 16) (l : Fin 128) :
    (Rect.unit (s := S7x1024x128) ![k.val, o, 0] S1x16x128.size i).emb (ix3 z r l) = ix3 k (rI o ho r) l := by
  have hz : z = 0 := Subsingleton.elim _ _
  subst hz; funext a
  fin_cases a <;> (apply Fin.ext; simp [rI, cL, Rect.emb, LoadRect.idx, Rect.toLoadRect, Rect.unit, ix3])

/-! ## The stored pieces -/

section Pieces

variable {base : F .f32} {accp accq : Vec F S1024x512 .f32} {wps : Vec F S1x1x512 .f32} {rec : Vec F S1024x128 .f32} {st : Vec F S7x1024x128 .f32}
  {vp vq : View sig .tc .vmem S1024x512 .f32} {vw : View sig .tc .vmem S1x1x512 .f32} {vr : View sig .tc .vmem S1024x128 .f32} {vs : View sig .tc .vmem S7x1024x128 .f32}
  {fp : vp.ty.Contents (Elt F)} {fq : vq.ty.Contents (Elt F)} {fw : vw.ty.Contents (Elt F)} {fr : vr.ty.Contents (Elt F)} {fs : vs.ty.Contents (Elt F)}

/-- Group `p` of the scaled scores of rows `o` and on, by the body's loads. -/
abbrev zpL (vp : View sig .tc .vmem S1024x512 .f32) (vw : View sig .tc .vmem S1x1x512 .f32) (vr : View sig .tc .vmem S1024x128 .f32)
    (fp : vp.ty.Contents (Elt F)) (fw : vw.ty.Contents (Elt F)) (fr : vr.ty.Contents (Elt F)) (o p : ℕ) (ho : o + 16 ≤ 1024) (hp : p ≤ 384) : FVec F S16x128 .f32 :=
  zpV (View.readAt (Elt F) vr (Rect.unit (s := S1024x128) ![o, 0] S16x128.size (inb2 (n := 1024) o 0 ho (by decide))).toLoadRect fr)
    (View.readAt (Elt F) vw (Rect.unit (s := S1x1x512) ![0, 0, p] S1x1x128.size (inbw p hp)).toLoadRect fw)
    (View.readAt (Elt F) vp (Rect.unit (s := S1024x512) ![o, p] S16x128.size (inb2 (n := 1024) o p ho (by omega))).toLoadRect fp)

/-- Group `p` of the reference scores of rows `o` and on, by the body's load. -/
abbrev zqL (vq : View sig .tc .vmem S1024x512 .f32) (fq : vq.ty.Contents (Elt F)) (o p : ℕ) (ho : o + 16 ≤ 1024) (hp : p ≤ 384) : FVec F S16x128 .f32 :=
  View.readAt (Elt F) vq (Rect.unit (s := S1024x512) ![o, p] S16x128.size (inb2 (n := 1024) o p ho (by omega))).toLoadRect fq

/-- The target columns of rows `o` and on, by the body's load. -/
abbrev tgL (base : F .f32) (vr : View sig .tc .vmem S1024x128 .f32) (fr : vr.ty.Contents (Elt F)) (o : ℕ) (ho : o + 16 ≤ 1024) : FVec F S16x128 .f32 :=
  tgV base (View.readAt (Elt F) vr (Rect.unit (s := S1024x128) ![o, 0] S16x128.size (inb2 (n := 1024) o 0 ho (by decide))).toLoadRect fr)

/-- Statistic `k` of rows `o` and on, by the body's load. -/
abbrev stL (vs : View sig .tc .vmem S7x1024x128 .f32) (fs : vs.ty.Contents (Elt F)) (k o : ℕ) (hk : k + 1 ≤ 7) (ho : o + 16 ≤ 1024) : Vec F S1x16x128 .f32 :=
  View.readAt (Elt F) vs (Rect.unit (s := S7x1024x128) ![k, o, 0] S1x16x128.size (inb3 k o hk ho)).toLoadRect fs

theorem zpL_apply (hP : vp.read (Elt F) fp = accp) (hW : vw.read (Elt F) fw = wps) (hR : vr.read (Elt F) fr = rec) (o p : ℕ) (ho : o + 16 ≤ 1024) (hp : p ≤ 384)
    (r : Fin 16) (l : Fin 128) : zpL vp vw vr fp fw fr o p ho hp (ix2 r l) = zpAt accp wps rec (rI o ho r) (cL p hp l) := by
  rw [zpL, zpV_apply, ldA hP o p ho hp, ldW hW p hp, ldR hR o ho]; rfl
theorem zqL_apply (hQ : vq.read (Elt F) fq = accq) (o p : ℕ) (ho : o + 16 ≤ 1024) (hp : p ≤ 384)
    (r : Fin 16) (l : Fin 128) : zqL vq fq o p ho hp (ix2 r l) = accq (ix2 (rI o ho r) (cL p hp l)) := ldA hQ o p ho hp _ r l
theorem tgL_apply (hR : vr.read (Elt F) fr = rec) (o : ℕ) (ho : o + 16 ≤ 1024) (r : Fin 16) (l : Fin 128) :
    tgL base vr fr o ho (ix2 r l) = FloatOps.subf (rec (ix2 (rI o ho r) (1 : Fin 128))) base := by
  rw [tgL, tgV_apply, ldR hR o ho]
theorem stV_at (hS : vs.read (Elt F) fs = st) (k : Fin 7) (o : ℕ) (ho : o + 16 ≤ 1024) (r : Fin 16) (l : Fin 128) :
    stV (stL vs fs k.val o (by omega) ho) (ix2 r l) = st (ix3 k (rI o ho r) l) := by
  rw [stV_apply, stL, ldS hS k o ho]
theorem stW_at (v1 : BitVec 1) (hS : vs.read (Elt F) fs = st) (k : Fin 7) (o : ℕ) (ho : o + 16 ≤ 1024) (r : Fin 16) (l : Fin 128) :
    stW v1 k.val (stL vs fs k.val o (by omega) ho) (ix2 r l) = selSt v1 st (ix3 k (rI o ho r) l) := by
  rw [stW_apply, stL, ldS hS k o ho]; rfl

/-- Statistic 0 as epilogue 1 stores it. -/
theorem pc1_0 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![0, o, 0] : Fin 3 → ℕ) a + S1x16x128.size a ≤ S7x1024x128.size a) (w : FVec F S1x16x128 .f32)
    (hw : w = upV (mxV (stV (stL vs fs 0 o (by decide) ho)) (zpL vp vw vr fp fw fr o 0 ho (by decide)) (zpL vp vw vr fp fw fr o 128 ho (by decide)) (zpL vp vw vr fp fw fr o 256 ho (by decide)) (zpL vp vw vr fp fw fr o 384 ho (by decide))))
    (x : (Rect.unit (s := S7x1024x128) ![0, o, 0] S1x16x128.size i).shape.Idx) :
    w x = epi base accp accq wps rec st ((Rect.unit (s := S7x1024x128) ![0, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 0 o ho i z r l)).symm
  refine (upV_apply _ z r l).trans ?_
  refine (mxV_apply _ _ _ _ _  (ix2 r l)).trans ?_
  refine Eq.trans ?_ (epi_0 base accp accq wps rec st (rI o ho r) l).symm
  exact mx4_congr (stV_at hS 0 o ho r l) (zpL_apply hP hW hR o 0 ho (by decide) r l) (zpL_apply hP hW hR o 128 ho (by decide) r l) (zpL_apply hP hW hR o 256 ho (by decide) r l) (zpL_apply hP hW hR o 384 ho (by decide) r l)

/-- Statistic 1 as epilogue 1 stores it. -/
theorem pc1_1 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![1, o, 0] : Fin 3 → ℕ) a + S1x16x128.size a ≤ S7x1024x128.size a) (w : FVec F S1x16x128 .f32)
    (hw : w = upV (mxV (stV (stL vs fs 1 o (by decide) ho)) (zqL vq fq o 0 ho (by decide)) (zqL vq fq o 128 ho (by decide)) (zqL vq fq o 256 ho (by decide)) (zqL vq fq o 384 ho (by decide))))
    (x : (Rect.unit (s := S7x1024x128) ![1, o, 0] S1x16x128.size i).shape.Idx) :
    w x = epi base accp accq wps rec st ((Rect.unit (s := S7x1024x128) ![1, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 1 o ho i z r l)).symm
  refine (upV_apply _ z r l).trans ?_
  refine (mxV_apply _ _ _ _ _  (ix2 r l)).trans ?_
  refine Eq.trans ?_ (epi_1 base accp accq wps rec st (rI o ho r) l).symm
  exact mx4_congr (stV_at hS 1 o ho r l) (zqL_apply hQ o 0 ho (by decide) r l) (zqL_apply hQ o 128 ho (by decide) r l) (zqL_apply hQ o 256 ho (by decide) r l) (zqL_apply hQ o 384 ho (by decide) r l)

/-- Statistic 2 as epilogue 1 stores it. -/
theorem pc1_2 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![2, o, 0] : Fin 3 → ℕ) a + S1x16x128.size a ≤ S7x1024x128.size a) (w : FVec F S1x16x128 .f32)
    (hw : w = upV (smV (stV (stL vs fs 0 o (by decide) ho)) (stV (stL vs fs 2 o (by decide) ho)) (zpL vp vw vr fp fw fr o 0 ho (by decide)) (zpL vp vw vr fp fw fr o 128 ho (by decide)) (zpL vp vw vr fp fw fr o 256 ho (by decide)) (zpL vp vw vr fp fw fr o 384 ho (by decide))))
    (x : (Rect.unit (s := S7x1024x128) ![2, o, 0] S1x16x128.size i).shape.Idx) :
    w x = epi base accp accq wps rec st ((Rect.unit (s := S7x1024x128) ![2, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 2 o ho i z r l)).symm
  refine (upV_apply _ z r l).trans ?_
  refine (smV_apply _ _ _ _ _ _  (ix2 r l)).trans ?_
  refine Eq.trans ?_ (epi_2 base accp accq wps rec st (rI o ho r) l).symm
  exact sm4_congr (stV_at hS 0 o ho r l) (stV_at hS 2 o ho r l) (zpL_apply hP hW hR o 0 ho (by decide) r l) (zpL_apply hP hW hR o 128 ho (by decide) r l) (zpL_apply hP hW hR o 256 ho (by decide) r l) (zpL_apply hP hW hR o 384 ho (by decide) r l)

/-- Statistic 3 as epilogue 1 stores it. -/
theorem pc1_3 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![3, o, 0] : Fin 3 → ℕ) a + S1x16x128.size a ≤ S7x1024x128.size a) (w : FVec F S1x16x128 .f32)
    (hw : w = upV (smV (stV (stL vs fs 1 o (by decide) ho)) (stV (stL vs fs 3 o (by decide) ho)) (zqL vq fq o 0 ho (by decide)) (zqL vq fq o 128 ho (by decide)) (zqL vq fq o 256 ho (by decide)) (zqL vq fq o 384 ho (by decide))))
    (x : (Rect.unit (s := S7x1024x128) ![3, o, 0] S1x16x128.size i).shape.Idx) :
    w x = epi base accp accq wps rec st ((Rect.unit (s := S7x1024x128) ![3, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 3 o ho i z r l)).symm
  refine (upV_apply _ z r l).trans ?_
  refine (smV_apply _ _ _ _ _ _  (ix2 r l)).trans ?_
  refine Eq.trans ?_ (epi_3 base accp accq wps rec st (rI o ho r) l).symm
  exact sm4_congr (stV_at hS 1 o ho r l) (stV_at hS 3 o ho r l) (zqL_apply hQ o 0 ho (by decide) r l) (zqL_apply hQ o 128 ho (by decide) r l) (zqL_apply hQ o 256 ho (by decide) r l) (zqL_apply hQ o 384 ho (by decide) r l)

/-- Statistic 4 as epilogue 1 stores it. -/
theorem pc1_4 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![4, o, 0] : Fin 3 → ℕ) a + S1x16x128.size a ≤ S7x1024x128.size a) (w : FVec F S1x16x128 .f32)
    (hw : w = upV (tmV (stV (stL vs fs 0 o (by decide) ho)) (stV (stL vs fs 4 o (by decide) ho)) (zpL vp vw vr fp fw fr o 0 ho (by decide)) (zpL vp vw vr fp fw fr o 128 ho (by decide)) (zpL vp vw vr fp fw fr o 256 ho (by decide)) (zpL vp vw vr fp fw fr o 384 ho (by decide)) (zqL vq fq o 0 ho (by decide)) (zqL vq fq o 128 ho (by decide)) (zqL vq fq o 256 ho (by decide)) (zqL vq fq o 384 ho (by decide))))
    (x : (Rect.unit (s := S7x1024x128) ![4, o, 0] S1x16x128.size i).shape.Idx) :
    w x = epi base accp accq wps rec st ((Rect.unit (s := S7x1024x128) ![4, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 4 o ho i z r l)).symm
  refine (upV_apply _ z r l).trans ?_
  refine (tmV_apply _ _ _ _ _ _ _ _ _ _  (ix2 r l)).trans ?_
  refine Eq.trans ?_ (epi_4 base accp accq wps rec st (rI o ho r) l).symm
  exact tm4_congr (stV_at hS 0 o ho r l) (stV_at hS 4 o ho r l) (zpL_apply hP hW hR o 0 ho (by decide) r l) (zpL_apply hP hW hR o 128 ho (by decide) r l) (zpL_apply hP hW hR o 256 ho (by decide) r l) (zpL_apply hP hW hR o 384 ho (by decide) r l) (zqL_apply hQ o 0 ho (by decide) r l) (zqL_apply hQ o 128 ho (by decide) r l) (zqL_apply hQ o 256 ho (by decide) r l) (zqL_apply hQ o 384 ho (by decide) r l)

/-- Statistic 5 as epilogue 1 stores it. -/
theorem pc1_5 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![5, o, 0] : Fin 3 → ℕ) a + S1x16x128.size a ≤ S7x1024x128.size a) (w : FVec F S1x16x128 .f32)
    (hw : w = upV (hmV (tgL base vr fr o ho) (stV (stL vs fs 5 o (by decide) ho)) (zpL vp vw vr fp fw fr o 0 ho (by decide)) (zpL vp vw vr fp fw fr o 128 ho (by decide)) (zpL vp vw vr fp fw fr o 256 ho (by decide)) (zpL vp vw vr fp fw fr o 384 ho (by decide))))
    (x : (Rect.unit (s := S7x1024x128) ![5, o, 0] S1x16x128.size i).shape.Idx) :
    w x = epi base accp accq wps rec st ((Rect.unit (s := S7x1024x128) ![5, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 5 o ho i z r l)).symm
  refine (upV_apply _ z r l).trans ?_
  refine (hmV_apply _ _ _ _ _ _ r l).trans ?_
  refine Eq.trans ?_ (epi_5 base accp accq wps rec st (rI o ho r) l).symm
  exact hm4_congr (tgL_apply hR o ho r l) (rfl) (stV_at hS 5 o ho r l) (zpL_apply hP hW hR o 0 ho (by decide) r l) (zpL_apply hP hW hR o 128 ho (by decide) r l) (zpL_apply hP hW hR o 256 ho (by decide) r l) (zpL_apply hP hW hR o 384 ho (by decide) r l)

/-- Statistic 6 as epilogue 1 stores it. -/
theorem pc1_6 (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![6, o, 0] : Fin 3 → ℕ) a + S1x16x128.size a ≤ S7x1024x128.size a) (w : FVec F S1x16x128 .f32)
    (hw : w = upV (hmV (tgL base vr fr o ho) (stV (stL vs fs 6 o (by decide) ho)) (zqL vq fq o 0 ho (by decide)) (zqL vq fq o 128 ho (by decide)) (zqL vq fq o 256 ho (by decide)) (zqL vq fq o 384 ho (by decide))))
    (x : (Rect.unit (s := S7x1024x128) ![6, o, 0] S1x16x128.size i).shape.Idx) :
    w x = epi base accp accq wps rec st ((Rect.unit (s := S7x1024x128) ![6, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec st) (embS 6 o ho i z r l)).symm
  refine (upV_apply _ z r l).trans ?_
  refine (hmV_apply _ _ _ _ _ _ r l).trans ?_
  refine Eq.trans ?_ (epi_6 base accp accq wps rec st (rI o ho r) l).symm
  exact hm4_congr (tgL_apply hR o ho r l) (rfl) (stV_at hS 6 o ho r l) (zqL_apply hQ o 0 ho (by decide) r l) (zqL_apply hQ o 128 ho (by decide) r l) (zqL_apply hQ o 256 ho (by decide) r l) (zqL_apply hQ o 384 ho (by decide) r l)

/-- Statistic 0 as epilogue 2 stores it. -/
theorem pc2_0 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![0, o, 0] : Fin 3 → ℕ) a + S1x16x128.size a ≤ S7x1024x128.size a) (w : FVec F S1x16x128 .f32)
    (hw : w = upV (mxV (stW v1 0 (stL vs fs 0 o (by decide) ho)) (zpL vp vw vr fp fw fr o 0 ho (by decide)) (zpL vp vw vr fp fw fr o 128 ho (by decide)) (zpL vp vw vr fp fw fr o 256 ho (by decide)) (zpL vp vw vr fp fw fr o 384 ho (by decide))))
    (x : (Rect.unit (s := S7x1024x128) ![0, o, 0] S1x16x128.size i).shape.Idx) :
    w x = epi base accp accq wps rec (selSt v1 st) ((Rect.unit (s := S7x1024x128) ![0, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 0 o ho i z r l)).symm
  refine (upV_apply _ z r l).trans ?_
  refine (mxV_apply _ _ _ _ _  (ix2 r l)).trans ?_
  refine Eq.trans ?_ (epi_0 base accp accq wps rec (selSt v1 st) (rI o ho r) l).symm
  exact mx4_congr (stW_at v1 hS 0 o ho r l) (zpL_apply hP hW hR o 0 ho (by decide) r l) (zpL_apply hP hW hR o 128 ho (by decide) r l) (zpL_apply hP hW hR o 256 ho (by decide) r l) (zpL_apply hP hW hR o 384 ho (by decide) r l)

/-- Statistic 1 as epilogue 2 stores it. -/
theorem pc2_1 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![1, o, 0] : Fin 3 → ℕ) a + S1x16x128.size a ≤ S7x1024x128.size a) (w : FVec F S1x16x128 .f32)
    (hw : w = upV (mxV (stW v1 1 (stL vs fs 1 o (by decide) ho)) (zqL vq fq o 0 ho (by decide)) (zqL vq fq o 128 ho (by decide)) (zqL vq fq o 256 ho (by decide)) (zqL vq fq o 384 ho (by decide))))
    (x : (Rect.unit (s := S7x1024x128) ![1, o, 0] S1x16x128.size i).shape.Idx) :
    w x = epi base accp accq wps rec (selSt v1 st) ((Rect.unit (s := S7x1024x128) ![1, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 1 o ho i z r l)).symm
  refine (upV_apply _ z r l).trans ?_
  refine (mxV_apply _ _ _ _ _  (ix2 r l)).trans ?_
  refine Eq.trans ?_ (epi_1 base accp accq wps rec (selSt v1 st) (rI o ho r) l).symm
  exact mx4_congr (stW_at v1 hS 1 o ho r l) (zqL_apply hQ o 0 ho (by decide) r l) (zqL_apply hQ o 128 ho (by decide) r l) (zqL_apply hQ o 256 ho (by decide) r l) (zqL_apply hQ o 384 ho (by decide) r l)

/-- Statistic 2 as epilogue 2 stores it. -/
theorem pc2_2 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![2, o, 0] : Fin 3 → ℕ) a + S1x16x128.size a ≤ S7x1024x128.size a) (w : FVec F S1x16x128 .f32)
    (hw : w = upV (smV (stW v1 0 (stL vs fs 0 o (by decide) ho)) (stW v1 2 (stL vs fs 2 o (by decide) ho)) (zpL vp vw vr fp fw fr o 0 ho (by decide)) (zpL vp vw vr fp fw fr o 128 ho (by decide)) (zpL vp vw vr fp fw fr o 256 ho (by decide)) (zpL vp vw vr fp fw fr o 384 ho (by decide))))
    (x : (Rect.unit (s := S7x1024x128) ![2, o, 0] S1x16x128.size i).shape.Idx) :
    w x = epi base accp accq wps rec (selSt v1 st) ((Rect.unit (s := S7x1024x128) ![2, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 2 o ho i z r l)).symm
  refine (upV_apply _ z r l).trans ?_
  refine (smV_apply _ _ _ _ _ _  (ix2 r l)).trans ?_
  refine Eq.trans ?_ (epi_2 base accp accq wps rec (selSt v1 st) (rI o ho r) l).symm
  exact sm4_congr (stW_at v1 hS 0 o ho r l) (stW_at v1 hS 2 o ho r l) (zpL_apply hP hW hR o 0 ho (by decide) r l) (zpL_apply hP hW hR o 128 ho (by decide) r l) (zpL_apply hP hW hR o 256 ho (by decide) r l) (zpL_apply hP hW hR o 384 ho (by decide) r l)

/-- Statistic 3 as epilogue 2 stores it. -/
theorem pc2_3 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![3, o, 0] : Fin 3 → ℕ) a + S1x16x128.size a ≤ S7x1024x128.size a) (w : FVec F S1x16x128 .f32)
    (hw : w = upV (smV (stW v1 1 (stL vs fs 1 o (by decide) ho)) (stW v1 3 (stL vs fs 3 o (by decide) ho)) (zqL vq fq o 0 ho (by decide)) (zqL vq fq o 128 ho (by decide)) (zqL vq fq o 256 ho (by decide)) (zqL vq fq o 384 ho (by decide))))
    (x : (Rect.unit (s := S7x1024x128) ![3, o, 0] S1x16x128.size i).shape.Idx) :
    w x = epi base accp accq wps rec (selSt v1 st) ((Rect.unit (s := S7x1024x128) ![3, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 3 o ho i z r l)).symm
  refine (upV_apply _ z r l).trans ?_
  refine (smV_apply _ _ _ _ _ _  (ix2 r l)).trans ?_
  refine Eq.trans ?_ (epi_3 base accp accq wps rec (selSt v1 st) (rI o ho r) l).symm
  exact sm4_congr (stW_at v1 hS 1 o ho r l) (stW_at v1 hS 3 o ho r l) (zqL_apply hQ o 0 ho (by decide) r l) (zqL_apply hQ o 128 ho (by decide) r l) (zqL_apply hQ o 256 ho (by decide) r l) (zqL_apply hQ o 384 ho (by decide) r l)

/-- Statistic 4 as epilogue 2 stores it. -/
theorem pc2_4 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![4, o, 0] : Fin 3 → ℕ) a + S1x16x128.size a ≤ S7x1024x128.size a) (w : FVec F S1x16x128 .f32)
    (hw : w = upV (tmV (stW v1 0 (stL vs fs 0 o (by decide) ho)) (stW v1 4 (stL vs fs 4 o (by decide) ho)) (zpL vp vw vr fp fw fr o 0 ho (by decide)) (zpL vp vw vr fp fw fr o 128 ho (by decide)) (zpL vp vw vr fp fw fr o 256 ho (by decide)) (zpL vp vw vr fp fw fr o 384 ho (by decide)) (zqL vq fq o 0 ho (by decide)) (zqL vq fq o 128 ho (by decide)) (zqL vq fq o 256 ho (by decide)) (zqL vq fq o 384 ho (by decide))))
    (x : (Rect.unit (s := S7x1024x128) ![4, o, 0] S1x16x128.size i).shape.Idx) :
    w x = epi base accp accq wps rec (selSt v1 st) ((Rect.unit (s := S7x1024x128) ![4, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 4 o ho i z r l)).symm
  refine (upV_apply _ z r l).trans ?_
  refine (tmV_apply _ _ _ _ _ _ _ _ _ _  (ix2 r l)).trans ?_
  refine Eq.trans ?_ (epi_4 base accp accq wps rec (selSt v1 st) (rI o ho r) l).symm
  exact tm4_congr (stW_at v1 hS 0 o ho r l) (stW_at v1 hS 4 o ho r l) (zpL_apply hP hW hR o 0 ho (by decide) r l) (zpL_apply hP hW hR o 128 ho (by decide) r l) (zpL_apply hP hW hR o 256 ho (by decide) r l) (zpL_apply hP hW hR o 384 ho (by decide) r l) (zqL_apply hQ o 0 ho (by decide) r l) (zqL_apply hQ o 128 ho (by decide) r l) (zqL_apply hQ o 256 ho (by decide) r l) (zqL_apply hQ o 384 ho (by decide) r l)

/-- Statistic 5 as epilogue 2 stores it. -/
theorem pc2_5 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![5, o, 0] : Fin 3 → ℕ) a + S1x16x128.size a ≤ S7x1024x128.size a) (w : FVec F S1x16x128 .f32)
    (hw : w = upV (hmV (tgL base vr fr o ho) (stW v1 5 (stL vs fs 5 o (by decide) ho)) (zpL vp vw vr fp fw fr o 0 ho (by decide)) (zpL vp vw vr fp fw fr o 128 ho (by decide)) (zpL vp vw vr fp fw fr o 256 ho (by decide)) (zpL vp vw vr fp fw fr o 384 ho (by decide))))
    (x : (Rect.unit (s := S7x1024x128) ![5, o, 0] S1x16x128.size i).shape.Idx) :
    w x = epi base accp accq wps rec (selSt v1 st) ((Rect.unit (s := S7x1024x128) ![5, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 5 o ho i z r l)).symm
  refine (upV_apply _ z r l).trans ?_
  refine (hmV_apply _ _ _ _ _ _ r l).trans ?_
  refine Eq.trans ?_ (epi_5 base accp accq wps rec (selSt v1 st) (rI o ho r) l).symm
  exact hm4_congr (tgL_apply hR o ho r l) (rfl) (stW_at v1 hS 5 o ho r l) (zpL_apply hP hW hR o 0 ho (by decide) r l) (zpL_apply hP hW hR o 128 ho (by decide) r l) (zpL_apply hP hW hR o 256 ho (by decide) r l) (zpL_apply hP hW hR o 384 ho (by decide) r l)

/-- Statistic 6 as epilogue 2 stores it. -/
theorem pc2_6 (v1 : BitVec 1) (hP : vp.read (Elt F) fp = accp) (hQ : vq.read (Elt F) fq = accq) (hW : vw.read (Elt F) fw = wps) (hR : vr.read (Elt F) fr = rec) (hS : vs.read (Elt F) fs = st)
    {o : ℕ} (ho : o + 16 ≤ 1024) (i : ∀ a, (![6, o, 0] : Fin 3 → ℕ) a + S1x16x128.size a ≤ S7x1024x128.size a) (w : FVec F S1x16x128 .f32)
    (hw : w = upV (hmV (tgL base vr fr o ho) (stW v1 6 (stL vs fs 6 o (by decide) ho)) (zqL vq fq o 0 ho (by decide)) (zqL vq fq o 128 ho (by decide)) (zqL vq fq o 256 ho (by decide)) (zqL vq fq o 384 ho (by decide))))
    (x : (Rect.unit (s := S7x1024x128) ![6, o, 0] S1x16x128.size i).shape.Idx) :
    w x = epi base accp accq wps rec (selSt v1 st) ((Rect.unit (s := S7x1024x128) ![6, o, 0] S1x16x128.size i).emb x) := by
  subst hw
  obtain ⟨z, r, l, rfl⟩ : ∃ (z : Fin 1) (r : Fin 16) (l : Fin 128), x = ix3 z r l := ⟨x 0, x 1, x 2, eq_ix3 x⟩
  refine Eq.trans ?_ (congrArg (epi base accp accq wps rec (selSt v1 st)) (embS 6 o ho i z r l)).symm
  refine (upV_apply _ z r l).trans ?_
  refine (hmV_apply _ _ _ _ _ _ r l).trans ?_
  refine Eq.trans ?_ (epi_6 base accp accq wps rec (selSt v1 st) (rI o ho r) l).symm
  exact hm4_congr (tgL_apply hR o ho r l) (rfl) (stW_at v1 hS 6 o ho r l) (zqL_apply hQ o 0 ho (by decide) r l) (zqL_apply hQ o 128 ho (by decide) r l) (zqL_apply hQ o 256 ho (by decide) r l) (zqL_apply hQ o 384 ho (by decide) r l)

end Pieces

/-! ## Lists of stored pieces -/

/-- One more piece in front. -/
theorem PiecesOf.cons {s : Shape} {e : EltTy} {Val : EltTy → Type} {G : s.Idx → Val e} {p : View.Piece Val s e} {L : List (View.Piece Val s e)}
    (h : ∀ x : p.1.shape.Idx, p.2 x = G (p.1.emb x)) (t : View.PiecesOf G L) : View.PiecesOf G (p :: L) := ⟨h, t⟩

/-- What a covering list of pieces of `G` leaves, over any earlier contents, reads `G`. -/
theorem read_of_pieces {σ : RefSig} {κ : Kind} {sp : Space} {s : Shape} {e : EltTy} {Val : EltTy → Type} (v : View σ κ sp s e) (f : v.ty.Contents Val)
    (G : s.Idx → Val e) (L : List (View.Piece Val s e)) (hc : ∀ y, ∃ p ∈ L, y ∈ p.1.set) (h : View.PiecesOf G L) : v.read Val (v.writes Val f L) = G :=
  funext fun y => v.read_writes_apply_of_pieces f G L h.mem y (hc y)

/-- The same when only the `k` latest pieces are looked at. -/
theorem read_of_pieces_take {σ : RefSig} {κ : Kind} {sp : Space} {s : Shape} {e : EltTy} {Val : EltTy → Type} (v : View σ κ sp s e) (f : v.ty.Contents Val)
    (G : s.Idx → Val e) (k : ℕ) (L : List (View.Piece Val s e)) (hc : ∀ y, ∃ p ∈ L.take k, y ∈ p.1.set) (h : View.PiecesOf G (L.take k)) :
    v.read Val (v.writes Val f L) = G := by
  have e : v.writes Val f L = v.writes Val (v.writes Val f (L.drop k)) (L.take k) := by
    rw [← View.writes_append, List.take_append_drop]
  rw [e]; exact read_of_pieces v _ G _ hc h

theorem hz2 : (![0, 0] : Fin 2 → ℕ) = fun _ => 0 := funext fun a => by fin_cases a <;> rfl
theorem hz3 : (![0, 0, 0] : Fin 3 → ℕ) = fun _ => 0 := funext fun a => by fin_cases a <;> rfl

/-- After a store of the whole buffer, whatever came before, the buffer reads the stored value. -/
theorem read_whole {σ : RefSig} {κ : Kind} {sp : Space} {s : Shape} {e : EltTy} {Val : EltTy → Type} (v : View σ κ sp s e) (f : v.ty.Contents Val)
    {off : Fin s.rank → ℕ} (h : off = fun _ => 0) (inb : ∀ a, off a + s.size a ≤ s.size a) (w : s.Idx → Val e) (L : List (View.Piece Val s e)) :
    v.read Val (v.writes Val f (⟨Rect.unit off s.size inb, w⟩ :: L)) = w := by
  subst h
  funext y
  have e : (Rect.unit (fun _ => 0) s.size inb).emb y = y := by funext a; apply Fin.ext; exact (Rect.emb_apply ..).trans (by show 0 + 1 * (y a).val = _; omega)
  have := View.read_writes_cons_emb v f (Rect.unit (fun _ => 0) s.size inb) w L y
  rwa [e] at this

/-- A load of the whole buffer, after stores that left it reading `G`. -/
theorem load_whole {σ : RefSig} {κ : Kind} {sp : Space} {s : Shape} {e : EltTy} {Val : EltTy → Type} (v : View σ κ sp s e) (f : v.ty.Contents Val)
    {off : Fin s.rank → ℕ} (h : off = fun _ => 0) (inb : ∀ a, off a + s.size a ≤ s.size a) (G : s.Idx → Val e) (hG : v.read Val f = G) :
    v.readAt Val (Rect.unit off s.size inb).toLoadRect f = G := by
  rw [View.readAt_eq_ld, hG]
  exact View.ld_unit_zero h inb G

/-! ## The products -/

/-- The raw scores of the first 512 rows of codes. -/
def prodA (w : Vec F S1024x2048 .fp8e4m3) (x : Vec F S1024x2048 .fp8e4m3) : Vec F S1024x512 .f32 :=
  k0_pay22 x (View.ld w (Rect.unit (s := S1024x2048) ![0, 0] S512x2048.size inb_S1024x2048_S512x2048_0_0))
/-- The raw scores of the other 512 rows of codes. -/
def prodB (w : Vec F S1024x2048 .fp8e4m3) (x : Vec F S1024x2048 .fp8e4m3) : Vec F S1024x512 .f32 :=
  k0_pay22 x (View.ld w (Rect.unit (s := S1024x2048) ![512, 0] S512x2048.size inb_S1024x2048_S512x2048_512_0))
/-- The reference scores of the first 512 rows of weights. -/
def qrodA (w : Vec F S1024x2048 .bf16) (x : Vec F S1024x2048 .bf16) : Vec F S1024x512 .f32 :=
  k0_pay23 x (View.ld w (Rect.unit (s := S1024x2048) ![0, 0] S512x2048.size inb_S1024x2048_S512x2048_0_0))
/-- The reference scores of the other 512 rows of weights. -/
def qrodB (w : Vec F S1024x2048 .bf16) (x : Vec F S1024x2048 .bf16) : Vec F S1024x512 .f32 :=
  k0_pay23 x (View.ld w (Rect.unit (s := S1024x2048) ![512, 0] S512x2048.size inb_S1024x2048_S512x2048_512_0))

end Cert.FwdIdeal.Hand

end
-- ==== Proof.FwdFin.lean ====
/- The closing of a row of tiles of `FwdIdeal`: the statistics of the 128 lanes merged, 32 rows at a time, and the loop over the 32 groups of rows as
   one value. -/
module

public import proofs.«01_k».proof.Proof.FwdTile
public import proofs.«01_k».proof.Proof.Gen.FwdIdeal.Loops
public import Idealize.ShloMosaic.Lib.Exec
public import Idealize.ShloMosaic.Lib.Tactic

@[expose] public section

set_option maxRecDepth 16384

noncomputable section

namespace Cert.FwdIdeal.Hand

open Idealize.ShloMosaic Idealize.ShloMosaic.TcCoe Idealize.ShloMosaic.Tactic
open Cert.FwdIdeal Cert.FwdIdeal.Gen

variable {F : FTy → Type} [FloatOps F]

/-- Is this a step that begins a row of tiles? -/
def firstBit (i : grid0.Coords) : BitVec 1 := Scalar.cmpi .eq (Scalar.remsi (BitVec.ofNat 32 (i 0).val) 48#32) 0#32

/-- 32 rows of one statistic. -/
def slab (st : Vec F S7x1024x128 .f32) (j : Fin 7) (q : ℕ) (hq : q < 32) : Vec F S1x32x128 .f32 :=
  fun x => st (ix3 (n0 := 7) (n1 := 1024) (n2 := 128) j ⟨32 * q + (x 1).val, by have h : (x 1).val < 32 := (x 1).isLt; show _ < 1024; omega⟩ (x 2))

/-- 32 advantages. -/
def advs (rec : Vec F S1024x128 .f32) (q : ℕ) (hq : q < 32) : Vec F S32x1 .f32 :=
  fun x => rec (ix2 (n0 := 1024) (n1 := 128) ⟨32 * q + (x 0).val, by have h : (x 0).val < 32 := (x 0).isLt; show _ < 1024; omega⟩ ⟨2, by decide⟩)

/-- The closing values of 32 rows, lane by lane. -/
def finBlk (st : Vec F S7x1024x128 .f32) (rec : Vec F S1024x128 .f32) (q : ℕ) (hq : q < 32) : Vec F S32x128 .f32 :=
  k0_pay3 (k0_pay13 (k0_pay8 (slab st 0 q hq) (slab st 2 q hq)) (k0_pay9 (slab st 0 q hq) (slab st 2 q hq)) (k0_pay10 (slab st 1 q hq) (slab st 3 q hq))
      (k0_pay11 (slab st 0 q hq) (slab st 4 q hq)) (slab st 5 q hq) (slab st 6 q hq))
    k0_pay14 (k0_pay15 (k0_pay8 (slab st 0 q hq) (slab st 2 q hq)) (k0_pay11 (slab st 0 q hq) (slab st 4 q hq)) (advs rec q hq))

/-- The closing values of 1024 rows. -/
def finTile (st : Vec F S7x1024x128 .f32) (rec : Vec F S1024x128 .f32) : Vec F S1024x128 .f32 :=
  fun y => finBlk st rec ((y 0).val / 32) (by have h : (y 0).val < 1024 := (y 0).isLt; omega)
    (ix2 (n0 := 32) (n1 := 128) ⟨(y 0).val % 32, Nat.mod_lt _ (by decide)⟩ (y 1))

theorem trips_eq : k0_t1_loop.trips = 32 := by decide +kernel
theorem lt32 (k : Fin k0_t1_loop.trips) : k.val < 32 := lt_of_lt_of_eq k.isLt trips_eq

theorem off1_eq : ∀ k : Fin k0_t1_loop.trips, k0_off1 k = ![0, 32 * k.val, 0] := by decide +kernel

theorem off2_eq : ∀ k : Fin k0_t1_loop.trips, k0_off2 k = ![2, 32 * k.val, 0] := by decide +kernel

theorem off3_eq : ∀ k : Fin k0_t1_loop.trips, k0_off3 k = ![1, 32 * k.val, 0] := by decide +kernel

theorem off4_eq : ∀ k : Fin k0_t1_loop.trips, k0_off4 k = ![3, 32 * k.val, 0] := by decide +kernel

theorem off5_eq : ∀ k : Fin k0_t1_loop.trips, k0_off5 k = ![4, 32 * k.val, 0] := by decide +kernel

theorem off6_eq : ∀ k : Fin k0_t1_loop.trips, k0_off6 k = ![5, 32 * k.val, 0] := by decide +kernel

theorem off7_eq : ∀ k : Fin k0_t1_loop.trips, k0_off7 k = ![6, 32 * k.val, 0] := by decide +kernel

theorem off8_eq : ∀ k : Fin k0_t1_loop.trips, k0_off8 k = ![32 * k.val, 2] := by decide +kernel
theorem off9_eq : ∀ k : Fin k0_t1_loop.trips, k0_off9 k = ![32 * k.val, 0] := by decide +kernel

/-- A load of 32 rows of one statistic. -/
theorem ld_slab {σ : RefSig} {κ : Kind} {sp : Space} (v : View σ κ sp S7x1024x128 .f32) (X : v.ty.Contents (Elt F)) (st : Vec F S7x1024x128 .f32)
    (h : v.read (Elt F) X = st) (j : Fin 7) (q : ℕ) (hq : q < 32) {o : Fin 3 → ℕ} (ho : o = ![j.val, 32 * q, 0]) (inb : ∀ a, o a + S1x32x128.size a ≤ S7x1024x128.size a) :
    v.readAt (Elt F) (Rect.unit (s := S7x1024x128) o S1x32x128.size inb).toLoadRect X = slab st j q hq := by
  rw [View.readAt_eq_ld, h]
  subst ho
  funext x
  show st _ = st _
  refine congrArg st ?_
  funext a
  apply Fin.ext
  refine (Rect.emb_apply ..).trans ?_
  match a with
  | ⟨0, _⟩ => show j.val + 1 * (x 0).val = j.val; have h : (x 0).val < 1 := (x 0).isLt; omega
  | ⟨1, _⟩ => show 32 * q + 1 * (x 1).val = 32 * q + (x 1).val; omega
  | ⟨2, _⟩ => show 0 + 1 * (x 2).val = (x 2).val; omega

/-- A load of 32 advantages. -/
theorem ld_advs {σ : RefSig} {κ : Kind} {sp : Space} (v : View σ κ sp S1024x128 .f32) (X : v.ty.Contents (Elt F)) (rec : Vec F S1024x128 .f32)
    (h : v.read (Elt F) X = rec) (q : ℕ) (hq : q < 32) {o : Fin 2 → ℕ} (ho : o = ![32 * q, 2]) (inb : ∀ a, o a + S32x1.size a ≤ S1024x128.size a) :
    v.readAt (Elt F) (Rect.unit (s := S1024x128) o S32x1.size inb).toLoadRect X = advs rec q hq := by
  rw [View.readAt_eq_ld, h]
  subst ho
  funext x
  show rec _ = rec _
  refine congrArg rec ?_
  funext a
  apply Fin.ext
  refine (Rect.emb_apply ..).trans ?_
  match a with
  | ⟨0, _⟩ => show 32 * q + 1 * (x 0).val = 32 * q + (x 0).val; omega
  | ⟨1, _⟩ => show 2 + 1 * (x 1).val = 2; have h : (x 1).val < 1 := (x 1).isLt; omega

/-- Where a trip's rows lie. -/
theorem fin_emb (st : Vec F S7x1024x128 .f32) (rec : Vec F S1024x128 .f32) (q : ℕ) (hq : q < 32) {o : Fin 2 → ℕ} (ho : o = ![32 * q, 0])
    (inb : ∀ a, o a + S32x128.size a ≤ S1024x128.size a) (x : S32x128.Idx) :
    finBlk st rec q hq x = finTile st rec ((Rect.unit (s := S1024x128) o S32x128.size inb).emb x) := by
  subst ho
  have h0 : (((Rect.unit (s := S1024x128) _ S32x128.size inb).emb x) 0).val = 32 * q + (x 0).val :=
    (Rect.emb_apply ..).trans (by show 32 * q + 1 * (x 0).val = _; omega)
  have h1 : (((Rect.unit (s := S1024x128) _ S32x128.size inb).emb x) 1).val = (x 1).val :=
    (Rect.emb_apply ..).trans (by show 0 + 1 * (x 1).val = _; omega)
  have hx : (x 0).val < 32 := (x 0).isLt
  unfold finTile
  have hd : (((Rect.unit (s := S1024x128) _ S32x128.size inb).emb x) 0).val / 32 = q := by rw [h0]; omega
  have key : ∀ (q' : ℕ) (hq' : q' < 32) (x' : S32x128.Idx), q' = q → x' = x → finBlk st rec q hq x = finBlk st rec q' hq' x' := by
    intro q' hq' x' e e'; subst e; subst e'; rfl
  refine key _ _ _ hd ?_
  funext a
  apply Fin.ext
  match a with
  | ⟨0, _⟩ => show (((Rect.unit (s := S1024x128) _ S32x128.size inb).emb x) 0).val % 32 = (x 0).val; rw [h0]; omega
  | ⟨1, _⟩ => exact h1

/-- Rows `32 q` to `32 q + 31` lie under trip `q`'s store. -/
theorem fin_mem (q : ℕ) {o : Fin 2 → ℕ} (ho : o = ![32 * q, 0]) (inb : ∀ a, o a + S32x128.size a ≤ S1024x128.size a) (y : S1024x128.Idx)
    (hy : (y 0).val / 32 = q) : y ∈ (Rect.unit (s := S1024x128) o S32x128.size inb).set := by
  subst ho
  rw [Rect.mem_set_unit]
  intro a
  match a with
  | ⟨0, _⟩ => show 32 * q ≤ (y 0).val ∧ (y 0).val < 32 * q + 32; omega
  | ⟨1, _⟩ => show 0 ≤ (y 1).val ∧ (y 1).val < 0 + 128; have h : (y 1).val < 128 := (y 1).isLt; omega

set_option maxHeartbeats 40000000 in
/-- What a trip writes. -/
theorem trip_pieces (c : Dev nD) (i : grid0.Coords) (arg1 : Memref sig .tc .vmem S1024x2048 .fp8e4m3) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x2048 .fp8e4m3) (harg4 : arg4.IsWhole) (arg5 : Memref sig .tc .vmem S1024x2048 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2x2x1024x512 .f32) (harg8 : arg8.IsWhole) (arg9 : Memref sig .tc .vmem S1024x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S7x1024x128 .f32) (harg14 : arg14.IsWhole) (arg15 : Memref sig .tc .vmem S7x1024x128 .f32) (harg15 : arg15.IsWhole) (arg16 : Memref sig .tc .vmem S1024x128 .f32) (harg16 : arg16.IsWhole) (hc1 : k0_cond2 i = 1#1) (X15 : BufTy.Contents (Elt F) arg15.view.ty) (X16 : BufTy.Contents (Elt F) arg16.view.ty)
    (st : Vec F S7x1024x128 .f32) (rec : Vec F S1024x128 .f32) (h15 : arg15.view.read (Elt F) X15 = st) (h16 : arg16.view.read (Elt F) X16 = rec) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X15 X16 k
      = [⟨Rect.unit (s := S1024x128) (k0_off9 k) S32x128.size (k0_off9_inb i k hc1), finBlk st rec k.val (lt32 k)⟩] := by
  have hk : k.val < 32 := lt32 k
  unfold tripL_k0_t1 trip_k0_t1
  unfold finBlk
  rw [← ld_slab arg15.view X15 st h15 0 k.val hk (off1_eq k) (k0_off1_inb i k hc1), ← ld_slab arg15.view X15 st h15 2 k.val hk (off2_eq k) (k0_off2_inb i k hc1),
    ← ld_slab arg15.view X15 st h15 1 k.val hk (off3_eq k) (k0_off3_inb i k hc1), ← ld_slab arg15.view X15 st h15 3 k.val hk (off4_eq k) (k0_off4_inb i k hc1),
    ← ld_slab arg15.view X15 st h15 4 k.val hk (off5_eq k) (k0_off5_inb i k hc1), ← ld_slab arg15.view X15 st h15 5 k.val hk (off6_eq k) (k0_off6_inb i k hc1),
    ← ld_slab arg15.view X15 st h15 6 k.val hk (off7_eq k) (k0_off7_inb i k hc1), ← ld_advs arg16.view X16 rec h16 k.val hk (off8_eq k) (k0_off8_inb i k hc1)]
  rfl

set_option maxHeartbeats 40000000 in
/-- After the loop the buffer of the closing values reads `finTile`. -/
theorem fin_read (c : Dev nD) (i : grid0.Coords) (arg1 : Memref sig .tc .vmem S1024x2048 .fp8e4m3) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x2048 .fp8e4m3) (harg4 : arg4.IsWhole) (arg5 : Memref sig .tc .vmem S1024x2048 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2x2x1024x512 .f32) (harg8 : arg8.IsWhole) (arg9 : Memref sig .tc .vmem S1024x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S7x1024x128 .f32) (harg14 : arg14.IsWhole) (arg15 : Memref sig .tc .vmem S7x1024x128 .f32) (harg15 : arg15.IsWhole) (arg16 : Memref sig .tc .vmem S1024x128 .f32) (harg16 : arg16.IsWhole) (hc1 : k0_cond2 i = 1#1) (X15 : BufTy.Contents (Elt F) arg15.view.ty) (X16 : BufTy.Contents (Elt F) arg16.view.ty)
    (G : BufTy.Contents (Elt F) arg9.view.ty)
    (st : Vec F S7x1024x128 .f32) (rec : Vec F S1024x128 .f32) (h15 : arg15.view.read (Elt F) X15 = st) (h16 : arg16.view.read (Elt F) X16 = rec) :
    arg9.view.read (Elt F) (arg9.view.writes (Elt F) G (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X15 X16 k0_t1_loop.trips)) = finTile st rec := by
  have H : ∀ n, n ≤ k0_t1_loop.trips →
      View.PiecesOf (finTile st rec) (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X15 X16 n)
      ∧ ∀ y : S1024x128.Idx, (y 0).val / 32 < n → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X15 X16 n, y ∈ p.1.set := by
    intro n
    induction n with
    | zero => intro _; exact ⟨trivial, fun y hy => absurd hy (Nat.not_lt_zero _)⟩
    | succ n ih =>
      intro hn
      obtain ⟨ih1, ih2⟩ := ih (by omega)
      have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X15 X16 ⟨n, hn⟩
      rw [trip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 X15 X16 st rec h15 h16 ⟨n, hn⟩] at e
      rw [show n + 1 = (⟨n, hn⟩ : Fin k0_t1_loop.trips).val + 1 from rfl, e]
      refine ⟨PiecesOf.cons (fun x => fin_emb st rec n (lt32 ⟨n, hn⟩) (off9_eq ⟨n, hn⟩) (k0_off9_inb i ⟨n, hn⟩ hc1) x) ih1, fun y hy => ?_⟩
      rcases Nat.lt_or_ge ((y 0).val / 32) n with h | h
      · obtain ⟨p, hp, hy'⟩ := ih2 y h
        exact ⟨p, List.mem_cons_of_mem _ hp, hy'⟩
      · refine ⟨_, List.mem_cons_self, fin_mem n (off9_eq ⟨n, hn⟩) (k0_off9_inb i ⟨n, hn⟩ hc1) y ?_⟩
        have : (y 0).val / 32 < n + 1 := hy
        omega
  obtain ⟨h1, h2⟩ := H _ (le_refl _)
  refine read_of_pieces _ _ _ _ (fun y => h2 y ?_) h1
  have : (y 0).val < 1024 := (y 0).isLt
  rw [trips_eq]; omega

end Cert.FwdIdeal.Hand

end
-- ==== Proof.FwdState.lean ====
/- What the carried scratch and the block of closing values of `FwdIdeal` hold at each point. -/
module

public import proofs.«01_k».proof.Proof.FwdFin
public import proofs.«01_k».proof.Proof.Gen.FwdIdeal.Frame.Runs

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal Cert.FwdIdeal.Gen

variable {F : FTy → Type} [FloatOps F]

variable (m : (ℓ : Loc nD τ sig) → Buf (Elt F) ℓ) (ρ : Dev nD → PrngReg)

/-! ## What the buffers hold at each point -/

/-- What a point hands the next: the raw scores of the second half tile (both models), the statistics and the record of the row. -/
abbrev St (F : FTy → Type) [FloatOps F] : Type := Vec F S1024x512 .f32 × Vec F S1024x512 .f32 × Vec F S7x1024x128 .f32 × Vec F S1024x128 .f32

/-- The statistics after the half tile the point before left. -/
def midS (c : Dev nD) (t : Fin cfg0.N) (p : St F) : Vec F S7x1024x128 .f32 :=
  epi (k0_pay21 (F := F) (grid0.coords t)) p.1 p.2.1 (iblk m c 6 t) p.2.2.2 p.2.2.1

/-- The statistics after the point's own first half tile. -/
def endS (c : Dev nD) (t : Fin cfg0.N) (p : St F) : Vec F S7x1024x128 .f32 :=
  epi (k0_pay20 (F := F) (grid0.coords t)) (prodA (iblk m c 3 t) (iblk m c 0 t)) (qrodA (iblk m c 4 t) (iblk m c 1 t)) (iblk m c 5 t) (iblk m c 2 t)
    (selSt (firstBit (grid0.coords t)) (midS m c t p))

/-- One point. -/
def nxt (c : Dev nD) (t : Fin cfg0.N) (p : St F) : St F :=
  (prodB (iblk m c 3 t) (iblk m c 0 t), qrodB (iblk m c 4 t) (iblk m c 1 t), endS m c t p, if t.val % 48 = 0 then k0_pay4 (iblk m c 2 t) else p.2.2.2)

/-- What a point finds: at the first point zeros. -/
def stAt (c : Dev nD) : (n : ℕ) → n ≤ cfg0.N → St F
  | 0, _ => (k0_pay16 (F := F), k0_pay17 (F := F), k0_pay18 (F := F), k0_pay19 (F := F))
  | n + 1, h => nxt m c ⟨n, h⟩ (stAt c n (Nat.le_of_lt h))

/-- The closing values a point that closes a row writes. -/
def finAt (c : Dev nD) (t : Fin cfg0.N) : Vec F S1024x128 .f32 :=
  finTile (midS m c t (stAt m c t.val (Nat.le_of_lt t.isLt))) (stAt m c t.val (Nat.le_of_lt t.isLt)).2.2.2

theorem stAt_zero (c : Dev nD) (n : ℕ) (h : n ≤ cfg0.N) (hz : n = 0) :
    stAt m c n h = (k0_pay16 (F := F), k0_pay17 (F := F), k0_pay18 (F := F), k0_pay19 (F := F)) := by subst hz; rfl

theorem stAt_succ (c : Dev nD) (n : ℕ) (h : n < cfg0.N) : stAt m c (n + 1) h = nxt m c ⟨n, h⟩ (stAt m c n (Nat.le_of_lt h)) := rfl

theorem nxt_first (c : Dev nD) (t : Fin cfg0.N) (p : St F) (h : t.val % 48 = 0) :
    nxt m c t p = (prodB (iblk m c 3 t) (iblk m c 0 t), qrodB (iblk m c 4 t) (iblk m c 1 t), endS m c t p, k0_pay4 (iblk m c 2 t)) := by
  unfold nxt; rw [if_pos h]
theorem nxt_other (c : Dev nD) (t : Fin cfg0.N) (p : St F) (h : ¬t.val % 48 = 0) :
    nxt m c t p = (prodB (iblk m c 3 t) (iblk m c 0 t), qrodB (iblk m c 4 t) (iblk m c 1 t), endS m c t p, p.2.2.2) := by
  unfold nxt; rw [if_neg h]

end Cert.FwdIdeal.Hand

end
-- ==== Proof.FwdRuns.lean ====
/- What the hand proof of `FwdIdeal` states its runs over: the body's two branch conditions in closed form over the points, the staging and scratch
   memrefs, and the region's invariant with the scratch buffers as memrefs. -/
module

public import proofs.«01_k».proof.Proof.Gen.FwdIdeal.Skeleton
public import proofs.«01_k».proof.Proof.Gen.FwdIdeal.Frame.Runs

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal Cert.FwdIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 865 = 0 :=
  (fun t => by
    have ht : t.val < 865 := Nat.lt_of_lt_of_eq t.isLt N_0
    have e0 : (grid0.coords t 0).val = t.val / 1 % 865 := Pipeline.Grid.coords_val t 0 (by decide) rfl
    simp only [cond0_0, e0]
    word_cmp
   : ∀ t : Fin grid0.N, cond0_0 (grid0.coords t) ↔ t.val % 865 = 0)

/-- The condition of the body's `scf.if` 1 (`k0_h2`), from the grid coordinates (the skeleton's scalar
    chain substituted). -/
abbrev cond0_1 (i : grid0.Coords) : Prop := k0_cond2 i = 1#1
/-- It holds at the points ≡ 0 (mod 48) — decided over the grid. -/
theorem hcond0_1 : ∀ t : Fin cfg0.N, cond0_1 (grid0.coords t) ↔ t.val % 48 = 0 :=
  (by decide +kernel : ∀ t : Fin grid0.N, cond0_1 (grid0.coords t) ↔ t.val % 48 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x2x1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S1024x512 .f32 := Memref.whole cc0_scratch0
abbrev scM0_1 : Memref sig .tc .vmem S1024x512 .f32 := Memref.whole cc0_scratch1
abbrev scM0_2 : Memref sig .tc .vmem S1024x512 .f32 := Memref.whole cc0_scratch2
abbrev scM0_3 : Memref sig .tc .vmem S1024x512 .f32 := Memref.whole cc0_scratch3
abbrev scM0_4 : Memref sig .tc .vmem S7x1024x128 .f32 := Memref.whole cc0_scratch4
abbrev scM0_5 : Memref sig .tc .vmem S7x1024x128 .f32 := Memref.whole cc0_scratch5
abbrev scM0_6 : Memref sig .tc .vmem S1024x128 .f32 := Memref.whole cc0_scratch6
/-- The scratch `arg12` the kernel carries between points, as a view: what it holds is stated through it. -/
abbrev VS0_2 : View sig .tc .vmem S1024x512 .f32 := scM0_2.view
/-- The scratch `arg13` the kernel carries between points, as a view: what it holds is stated through it. -/
abbrev VS0_3 : View sig .tc .vmem S1024x512 .f32 := scM0_3.view
/-- The scratch `arg14` the kernel carries between points, as a view: what it holds is stated through it. -/
abbrev VS0_4 : View sig .tc .vmem S7x1024x128 .f32 := scM0_4.view
/-- The scratch `arg16` the kernel carries between points, as a view: what it holds is stated through it. -/
abbrev VS0_6 : View sig .tc .vmem S1024x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.FwdIdeal.Hand

end
-- ==== Proof.FwdStepA.lean ====
/- The body of `FwdIdeal` at the first point. -/
module

public import proofs.«01_k».proof.Proof.FwdRuns
public import proofs.«01_k».proof.Proof.FwdFin

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal Cert.FwdIdeal.Gen

variable {F : FTy → Type} [FloatOps F]

local notation "𝕄" => MT nD τ sig Unit (Elt F) ℕ (UR sig nD τ) ℕ

set_option maxHeartbeats 400000000 in
/-- The body's triple: from the staged blocks and the carried contents to the products, statistics and record it leaves for the next point. -/
theorem step_A (c : Dev nD) (i : grid0.Coords) (arg1 : Memref sig .tc .vmem S1024x2048 .fp8e4m3) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x2048 .fp8e4m3) (harg4 : arg4.IsWhole) (arg5 : Memref sig .tc .vmem S1024x2048 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2x2x1024x512 .f32) (harg8 : arg8.IsWhole) (arg9 : Memref sig .tc .vmem S1024x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S7x1024x128 .f32) (harg14 : arg14.IsWhole) (arg15 : Memref sig .tc .vmem S7x1024x128 .f32) (harg15 : arg15.IsWhole) (arg16 : Memref sig .tc .vmem S1024x128 .f32) (harg16 : arg16.IsWhole) (hc0 : cond0_0 i) (hc1 : cond0_1 i)
    (x0 : Vec F S1024x2048 .fp8e4m3) (x1 : Vec F S1024x2048 .bf16) (x2 : Vec F S1024x128 .f32) (x3 : Vec F S1024x2048 .fp8e4m3) (x4 : Vec F S1024x2048 .bf16) (x5 : Vec F S1x1x512 .f32) (x6 : Vec F S1x1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare (finTile (epi (k0_pay21 (F := F) i) (k0_pay16 (F := F)) (k0_pay17 (F := F)) x6 (k0_pay19 (F := F)) (k0_pay18 (F := F))) (k0_pay19 (F := F))) ∗ (∃ d, owns (c : Thread nD τ) arg10 fullShare d) ∗ (∃ d, owns (c : Thread nD τ) arg11 fullShare d) ∗ owns (c : Thread nD τ) arg12 fullShare (prodB x3 x0) ∗ owns (c : Thread nD τ) arg13 fullShare (qrodB x4 x1) ∗ owns (c : Thread nD τ) arg14 fullShare (epi (k0_pay20 (F := F) i) (prodA x3 x0) (qrodA x4 x1) x5 x2 (selSt (firstBit i) (epi (k0_pay21 (F := F) i) (k0_pay16 (F := F)) (k0_pay17 (F := F)) x6 (k0_pay19 (F := F)) (k0_pay18 (F := F))))) ∗ (∃ d, owns (c : Thread nD τ) arg15 fullShare d) ∗ owns (c : Thread nD τ) arg16 fullShare (k0_pay4 x2)) -∗ K ⟨⟩))
          ⊢ wp frame (wpE (defs₀ (F := F)) Variants.none c none) E (cc0_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fwd_eq_skeleton]; unfold cc0_fwd_skel
    simp only [k0_part696_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part697_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part698_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part699_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part700_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part701_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part702_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part703_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part704_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part705_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part706_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part707_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    have h10 : arg10.view.read (Elt F) (arg10.view.writes (Elt F) arg10.view.junk (step_A.sl.HS0_1 c arg1 harg1 arg4 harg4 x0 x3)) = prodA x3 x0 := by
      refine (read_whole _ _ hz2 _ _ _).trans ?_
      unfold prodA
      refine congr (congrArg k0_pay22 ?_) ?_
      · exact load_whole _ _ hz2 _ _ (harg1.read_unread _)
      · exact congrArg (fun X => View.ld X _) (harg4.read_unread _)
    have h11 : arg11.view.read (Elt F) (arg11.view.writes (Elt F) arg11.view.junk (step_A.sl.HS1_1 c arg2 harg2 arg5 harg5 x1 x4)) = qrodA x4 x1 := by
      refine (read_whole _ _ hz2 _ _ _).trans ?_
      unfold qrodA
      refine congr (congrArg k0_pay23 ?_) ?_
      · exact load_whole _ _ hz2 _ _ (harg2.read_unread _)
      · exact congrArg (fun X => View.ld X _) (harg5.read_unread _)
    have h15 : arg15.view.read (Elt F) (arg15.view.writes (Elt F) arg15.view.junk (step_A.sl.HS5_448 c i arg7 harg7 arg12 arg13 arg14 arg16 x6)) = epi (k0_pay21 (F := F) i) (k0_pay16 (F := F)) (k0_pay17 (F := F)) x6 (k0_pay19 (F := F)) (k0_pay18 (F := F)) := by
      refine read_of_pieces _ _ _ _ (View.cover_of_tiledL _ S1x16x128.size (by sl_kernel_rfl)) ?_
      iterate 64
        refine PiecesOf.cons (pc1_6 (harg12.read_unread _) (read_whole _ _ hz2 _ _ _) (harg7.read_unread _) (read_whole _ _ hz2 _ _ _) (read_whole _ _ hz3 _ _ _) (by decide) (by decide) _ (by exact rfl)) ?_
        refine PiecesOf.cons (pc1_5 (read_whole _ _ hz2 _ _ _) (harg13.read_unread _) (harg7.read_unread _) (read_whole _ _ hz2 _ _ _) (read_whole _ _ hz3 _ _ _) (by decide) (by decide) _ (by exact rfl)) ?_
        refine PiecesOf.cons (pc1_4 (read_whole _ _ hz2 _ _ _) (read_whole _ _ hz2 _ _ _) (harg7.read_unread _) (read_whole _ _ hz2 _ _ _) (read_whole _ _ hz3 _ _ _) (by decide) (by decide) _ (by exact rfl)) ?_
        refine PiecesOf.cons (pc1_3 (harg12.read_unread _) (read_whole _ _ hz2 _ _ _) (harg7.read_unread _) (harg16.read_unread _) (read_whole _ _ hz3 _ _ _) (by decide) (by decide) _ (by exact rfl)) ?_
        refine PiecesOf.cons (pc1_2 (read_whole _ _ hz2 _ _ _) (harg13.read_unread _) (harg7.read_unread _) (read_whole _ _ hz2 _ _ _) (read_whole _ _ hz3 _ _ _) (by decide) (by decide) _ (by exact rfl)) ?_
        refine PiecesOf.cons (pc1_1 (harg12.read_unread _) (read_whole _ _ hz2 _ _ _) (harg7.read_unread _) (harg16.read_unread _) (read_whole _ _ hz3 _ _ _) (by decide) (by decide) _ (by exact rfl)) ?_
        refine PiecesOf.cons (pc1_0 (read_whole _ _ hz2 _ _ _) (harg13.read_unread _) (harg7.read_unread _) (read_whole _ _ hz2 _ _ _) (read_whole _ _ hz3 _ _ _) (by decide) (by decide) _ (by exact rfl)) ?_
      exact trivial
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _; isplitr; swap; · iexact H8
      ipureintro
      exact fin_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ h15 (read_whole _ _ hz2 _ _ _)
    isplitl [HS0]
    · iexists _, _; isplitr; swap; · iexact HS0
      ipureintro; rfl
    isplitl [HS1]
    · iexists _, _; isplitr; swap; · iexact HS1
      ipureintro; rfl
    isplitl [HS2]
    · iexists _; isplitr; swap; · iexact HS2
      ipureintro
      refine (read_whole _ _ hz2 _ _ _).trans ?_
      unfold prodB
      refine congr (congrArg k0_pay22 ?_) ?_
      · exact load_whole _ _ hz2 _ _ (harg1.read_unread _)
      · exact congrArg (fun X => View.ld X _) (harg4.read_unread _)
    isplitl [HS3]
    · iexists _; isplitr; swap; · iexact HS3
      ipureintro
      refine (read_whole _ _ hz2 _ _ _).trans ?_
      unfold qrodB
      refine congr (congrArg k0_pay23 ?_) ?_
      · exact load_whole _ _ hz2 _ _ (harg2.read_unread _)
      · exact congrArg (fun X => View.ld X _) (harg5.read_unread _)
    isplitl [HS4]
    · iexists _; isplitr; swap; · iexact HS4
      ipureintro
      refine read_of_pieces_take _ _ _ 448 _ (View.cover_of_tiledL _ S1x16x128.size (by sl_kernel_rfl)) ?_
      iterate 64
        refine PiecesOf.cons (pc2_6 (firstBit i) h10 h11 (harg6.read_unread _) (harg3.read_unread _) h15 (by decide) (by decide) _ (by exact rfl)) ?_
        refine PiecesOf.cons (pc2_5 (firstBit i) h10 h11 (harg6.read_unread _) (harg3.read_unread _) h15 (by decide) (by decide) _ (by exact rfl)) ?_
        refine PiecesOf.cons (pc2_4 (firstBit i) h10 h11 (harg6.read_unread _) (harg3.read_unread _) h15 (by decide) (by decide) _ (by exact rfl)) ?_
        refine PiecesOf.cons (pc2_3 (firstBit i) h10 h11 (harg6.read_unread _) (harg3.read_unread _) h15 (by decide) (by decide) _ (by exact rfl)) ?_
        refine PiecesOf.cons (pc2_2 (firstBit i) h10 h11 (harg6.read_unread _) (harg3.read_unread _) h15 (by decide) (by decide) _ (by exact rfl)) ?_
        refine PiecesOf.cons (pc2_1 (firstBit i) h10 h11 (harg6.read_unread _) (harg3.read_unread _) h15 (by decide) (by decide) _ (by exact rfl)) ?_
        refine PiecesOf.cons (pc2_0 (firstBit i) h10 h11 (harg6.read_unread _) (harg3.read_unread _) h15 (by decide) (by decide) _ (by exact rfl)) ?_
      exact trivial
    isplitl [HS5]
    · iexists _, _; isplitr; swap; · iexact HS5
      ipureintro; rfl
    iexists _; isplitr; swap; · iexact HS6
    ipureintro
    refine (read_whole _ _ hz2 _ _ _).trans ?_
    refine congrArg k0_pay4 ?_
    exact load_whole _ _ hz2 _ _ (harg3.read_unread _)

end Cert.FwdIdeal.Hand

end
-- ==== Proof.FwdStepB.lean ====
/- The body of `FwdIdeal` at a point inside a row of tiles. -/
module

public import proofs.«01_k».proof.Proof.FwdRuns
public import proofs.«01_k».proof.Proof.FwdFin

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal Cert.FwdIdeal.Gen

variable {F : FTy → Type} [FloatOps F]

local notation "𝕄" => MT nD τ sig Unit (Elt F) ℕ (UR sig nD τ) ℕ

set_option maxHeartbeats 400000000 in
/-- The body's triple: from the staged blocks and the carried contents to the products, statistics and record it leaves for the next point. -/
theorem step_B (c : Dev nD) (i : grid0.Coords) (arg1 : Memref sig .tc .vmem S1024x2048 .fp8e4m3) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x2048 .fp8e4m3) (harg4 : arg4.IsWhole) (arg5 : Memref sig .tc .vmem S1024x2048 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2x2x1024x512 .f32) (harg8 : arg8.IsWhole) (arg9 : Memref sig .tc .vmem S1024x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S7x1024x128 .f32) (harg14 : arg14.IsWhole) (arg15 : Memref sig .tc .vmem S7x1024x128 .f32) (harg15 : arg15.IsWhole) (arg16 : Memref sig .tc .vmem S1024x128 .f32) (harg16 : arg16.IsWhole) (hc0 : ¬cond0_0 i) (hc1 : ¬cond0_1 i)
    (x0 : Vec F S1024x2048 .fp8e4m3) (x1 : Vec F S1024x2048 .bf16) (x2 : Vec F S1024x128 .f32) (x3 : Vec F S1024x2048 .fp8e4m3) (x4 : Vec F S1024x2048 .bf16) (x5 : Vec F S1x1x512 .f32) (x6 : Vec F S1x1x512 .f32) (xs2 : Vec F S1024x512 .f32) (xs3 : Vec F S1024x512 .f32) (xs4 : Vec F S7x1024x128 .f32) (xs6 : Vec F S1024x128 .f32) (x8 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d) ∗ (∃ d, owns (c : Thread nD τ) arg11 fullShare d) ∗ owns (c : Thread nD τ) arg12 fullShare xs2 ∗ owns (c : Thread nD τ) arg13 fullShare xs3 ∗ owns (c : Thread nD τ) arg14 fullShare xs4 ∗ (∃ d, owns (c : Thread nD τ) arg15 fullShare d) ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare x8 ∗ (∃ d, owns (c : Thread nD τ) arg10 fullShare d) ∗ (∃ d, owns (c : Thread nD τ) arg11 fullShare d) ∗ owns (c : Thread nD τ) arg12 fullShare (prodB x3 x0) ∗ owns (c : Thread nD τ) arg13 fullShare (qrodB x4 x1) ∗ owns (c : Thread nD τ) arg14 fullShare (epi (k0_pay20 (F := F) i) (prodA x3 x0) (qrodA x4 x1) x5 x2 (selSt (firstBit i) (epi (k0_pay21 (F := F) i) xs2 xs3 x6 xs6 xs4))) ∗ (∃ d, owns (c : Thread nD τ) arg15 fullShare d) ∗ owns (c : Thread nD τ) arg16 fullShare xs6) -∗ K ⟨⟩))
          ⊢ wp frame (wpE (defs₀ (F := F)) Variants.none c none) E (cc0_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fwd_eq_skeleton]; unfold cc0_fwd_skel
    simp only [k0_part696_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part697_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part698_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part699_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part700_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part701_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part702_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part703_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part704_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part705_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part706_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part707_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, ⟨%ds1, %fs1, -, HS1⟩, ⟨%fs2, %hfs2, HS2⟩, ⟨%fs3, %hfs3, HS3⟩, ⟨%fs4, %hfs4, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs2; obtain rfl := harg13.eq_unread hfs3; obtain rfl := harg14.eq_unread hfs4; obtain rfl := harg16.eq_unread hfs6
    sl_exec (disch := first | sl_exact hc0 | sl_exact hc1)
    sl_step
    have h10 : arg10.view.read (Elt F) (arg10.view.writes (Elt F) arg10.view.junk (step_B.sl.HS0_1 c arg1 harg1 arg4 harg4 x0 x3)) = prodA x3 x0 := by
      refine (read_whole _ _ hz2 _ _ _).trans ?_
      unfold prodA
      refine congr (congrArg k0_pay22 ?_) ?_
      · exact load_whole _ _ hz2 _ _ (harg1.read_unread _)
      · exact congrArg (fun X => View.ld X _) (harg4.read_unread _)
    have h11 : arg11.view.read (Elt F) (arg11.view.writes (Elt F) arg11.view.junk (step_B.sl.HS1_1 c arg2 harg2 arg5 harg5 x1 x4)) = qrodA x4 x1 := by
      refine (read_whole _ _ hz2 _ _ _).trans ?_
      unfold qrodA
      refine congr (congrArg k0_pay23 ?_) ?_
      · exact load_whole _ _ hz2 _ _ (harg2.read_unread _)
      · exact congrArg (fun X => View.ld X _) (harg5.read_unread _)
    have h15 : arg15.view.read (Elt F) (arg15.view.writes (Elt F) arg15.view.junk (step_B.sl.HS5_448 c i arg7 harg7 arg12 harg12 arg13 harg13 arg14 harg14 arg16 harg16 x6 xs2 xs3 xs4 xs6)) = epi (k0_pay21 (F := F) i) xs2 xs3 x6 xs6 xs4 := by
      refine read_of_pieces _ _ _ _ (View.cover_of_tiledL _ S1x16x128.size (by sl_kernel_rfl)) ?_
      iterate 64
        refine PiecesOf.cons (pc1_6 (harg12.read_unread _) (harg13.read_unread _) (harg7.read_unread _) (harg16.read_unread _) (harg14.read_unread _) (by decide) (by decide) _ (by exact rfl)) ?_
        refine PiecesOf.cons (pc1_5 (harg12.read_unread _) (harg13.read_unread _) (harg7.read_unread _) (harg16.read_unread _) (harg14.read_unread _) (by decide) (by decide) _ (by exact rfl)) ?_
        refine PiecesOf.cons (pc1_4 (harg12.read_unread _) (harg13.read_unread _) (harg7.read_unread _) (harg16.read_unread _) (harg14.read_unread _) (by decide) (by decide) _ (by exact rfl)) ?_
        refine PiecesOf.cons (pc1_3 (harg12.read_unread _) (harg13.read_unread _) (harg7.read_unread _) (harg16.read_unread _) (harg14.read_unread _) (by decide) (by decide) _ (by exact rfl)) ?_
        refine PiecesOf.cons (pc1_2 (harg12.read_unread _) (harg13.read_unread _) (harg7.read_unread _) (harg16.read_unread _) (harg14.read_unread _) (by decide) (by decide) _ (by exact rfl)) ?_
        refine PiecesOf.cons (pc1_1 (harg12.read_unread _) (harg13.read_unread _) (harg7.read_unread _) (harg16.read_unread _) (harg14.read_unread _) (by decide) (by decide) _ (by exact rfl)) ?_
        refine PiecesOf.cons (pc1_0 (harg12.read_unread _) (harg13.read_unread _) (harg7.read_unread _) (harg16.read_unread _) (harg14.read_unread _) (by decide) (by decide) _ (by exact rfl)) ?_
      exact trivial
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _; isplitr; swap; · iexact H8
      ipureintro; exact hf8
    isplitl [HS0]
    · iexists _, _; isplitr; swap; · iexact HS0
      ipureintro; rfl
    isplitl [HS1]
    · iexists _, _; isplitr; swap; · iexact HS1
      ipureintro; rfl
    isplitl [HS2]
    · iexists _; isplitr; swap; · iexact HS2
      ipureintro
      refine (read_whole _ _ hz2 _ _ _).trans ?_
      unfold prodB
      refine congr (congrArg k0_pay22 ?_) ?_
      · exact load_whole _ _ hz2 _ _ (harg1.read_unread _)
      · exact congrArg (fun X => View.ld X _) (harg4.read_unread _)
    isplitl [HS3]
    · iexists _; isplitr; swap; · iexact HS3
      ipureintro
      refine (read_whole _ _ hz2 _ _ _).trans ?_
      unfold qrodB
      refine congr (congrArg k0_pay23 ?_) ?_
      · exact load_whole _ _ hz2 _ _ (harg2.read_unread _)
      · exact congrArg (fun X => View.ld X _) (harg5.read_unread _)
    isplitl [HS4]
    · iexists _; isplitr; swap; · iexact HS4
      ipureintro
      refine read_of_pieces _ _ _ _ (View.cover_of_tiledL _ S1x16x128.size (by sl_kernel_rfl)) ?_
      iterate 64
        refine PiecesOf.cons (pc2_6 (firstBit i) h10 h11 (harg6.read_unread _) (harg3.read_unread _) h15 (by decide) (by decide) _ (by exact rfl)) ?_
        refine PiecesOf.cons (pc2_5 (firstBit i) h10 h11 (harg6.read_unread _) (harg3.read_unread _) h15 (by decide) (by decide) _ (by exact rfl)) ?_
        refine PiecesOf.cons (pc2_4 (firstBit i) h10 h11 (harg6.read_unread _) (harg3.read_unread _) h15 (by decide) (by decide) _ (by exact rfl)) ?_
        refine PiecesOf.cons (pc2_3 (firstBit i) h10 h11 (harg6.read_unread _) (harg3.read_unread _) h15 (by decide) (by decide) _ (by exact rfl)) ?_
        refine PiecesOf.cons (pc2_2 (firstBit i) h10 h11 (harg6.read_unread _) (harg3.read_unread _) h15 (by decide) (by decide) _ (by exact rfl)) ?_
        refine PiecesOf.cons (pc2_1 (firstBit i) h10 h11 (harg6.read_unread _) (harg3.read_unread _) h15 (by decide) (by decide) _ (by exact rfl)) ?_
        refine PiecesOf.cons (pc2_0 (firstBit i) h10 h11 (harg6.read_unread _) (harg3.read_unread _) h15 (by decide) (by decide) _ (by exact rfl)) ?_
      exact trivial
    isplitl [HS5]
    · iexists _, _; isplitr; swap; · iexact HS5
      ipureintro; rfl
    iexists _; isplitr; swap; · iexact HS6
    ipureintro; exact harg16.read_unread _

end Cert.FwdIdeal.Hand

end
-- ==== Proof.FwdStepC.lean ====
/- The body of `FwdIdeal` at a later point that closes a row of tiles. -/
module

public import proofs.«01_k».proof.Proof.FwdRuns
public import proofs.«01_k».proof.Proof.FwdFin

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal Cert.FwdIdeal.Gen

variable {F : FTy → Type} [FloatOps F]

local notation "𝕄" => MT nD τ sig Unit (Elt F) ℕ (UR sig nD τ) ℕ

set_option maxHeartbeats 400000000 in
/-- The body's triple: from the staged blocks and the carried contents to the products, statistics and record it leaves for the next point. -/
theorem step_C (c : Dev nD) (i : grid0.Coords) (arg1 : Memref sig .tc .vmem S1024x2048 .fp8e4m3) (harg1 : arg1.IsWhole) (arg2 : Memref sig .tc .vmem S1024x2048 .bf16) (harg2 : arg2.IsWhole) (arg3 : Memref sig .tc .vmem S1024x128 .f32) (harg3 : arg3.IsWhole) (arg4 : Memref sig .tc .vmem S1024x2048 .fp8e4m3) (harg4 : arg4.IsWhole) (arg5 : Memref sig .tc .vmem S1024x2048 .bf16) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S2x2x1024x512 .f32) (harg8 : arg8.IsWhole) (arg9 : Memref sig .tc .vmem S1024x128 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S7x1024x128 .f32) (harg14 : arg14.IsWhole) (arg15 : Memref sig .tc .vmem S7x1024x128 .f32) (harg15 : arg15.IsWhole) (arg16 : Memref sig .tc .vmem S1024x128 .f32) (harg16 : arg16.IsWhole) (hc0 : ¬cond0_0 i) (hc1 : cond0_1 i)
    (x0 : Vec F S1024x2048 .fp8e4m3) (x1 : Vec F S1024x2048 .bf16) (x2 : Vec F S1024x128 .f32) (x3 : Vec F S1024x2048 .fp8e4m3) (x4 : Vec F S1024x2048 .bf16) (x5 : Vec F S1x1x512 .f32) (x6 : Vec F S1x1x512 .f32) (xs2 : Vec F S1024x512 .f32) (xs3 : Vec F S1024x512 .f32) (xs4 : Vec F S7x1024x128 .f32) (xs6 : Vec F S1024x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs2 ∗ owns (c : Thread nD τ) arg13 fullShare xs3 ∗ owns (c : Thread nD τ) arg14 fullShare xs4 ∗ (∃ d, owns (c : Thread nD τ) arg15 fullShare d) ∗ owns (c : Thread nD τ) arg16 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare (finTile (epi (k0_pay21 (F := F) i) xs2 xs3 x6 xs6 xs4) xs6) ∗ (∃ d, owns (c : Thread nD τ) arg10 fullShare d) ∗ (∃ d, owns (c : Thread nD τ) arg11 fullShare d) ∗ owns (c : Thread nD τ) arg12 fullShare (prodB x3 x0) ∗ owns (c : Thread nD τ) arg13 fullShare (qrodB x4 x1) ∗ owns (c : Thread nD τ) arg14 fullShare (epi (k0_pay20 (F := F) i) (prodA x3 x0) (qrodA x4 x1) x5 x2 (selSt (firstBit i) (epi (k0_pay21 (F := F) i) xs2 xs3 x6 xs6 xs4))) ∗ (∃ d, owns (c : Thread nD τ) arg15 fullShare d) ∗ owns (c : Thread nD τ) arg16 fullShare (k0_pay4 x2)) -∗ K ⟨⟩))
          ⊢ wp frame (wpE (defs₀ (F := F)) Variants.none c none) E (cc0_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_fwd_eq_skeleton]; unfold cc0_fwd_skel
    simp only [k0_part696_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part697_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part698_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part699_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part700_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part701_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part702_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part703_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part704_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part705_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part706_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton, k0_part637_eq_skeleton, k0_part638_eq_skeleton, k0_part639_eq_skeleton, k0_part640_eq_skeleton, k0_part641_eq_skeleton, k0_part642_eq_skeleton, k0_part643_eq_skeleton, k0_part644_eq_skeleton, k0_part645_eq_skeleton, k0_part646_eq_skeleton, k0_part647_eq_skeleton, k0_part648_eq_skeleton, k0_part649_eq_skeleton, k0_part650_eq_skeleton, k0_part651_eq_skeleton, k0_part652_eq_skeleton, k0_part653_eq_skeleton, k0_part654_eq_skeleton, k0_part655_eq_skeleton, k0_part656_eq_skeleton, k0_part657_eq_skeleton, k0_part658_eq_skeleton, k0_part659_eq_skeleton, k0_part660_eq_skeleton, k0_part661_eq_skeleton, k0_part662_eq_skeleton, k0_part707_eq_skeleton, k0_part663_eq_skeleton, k0_part664_eq_skeleton, k0_part665_eq_skeleton, k0_part666_eq_skeleton, k0_part667_eq_skeleton, k0_part668_eq_skeleton, k0_part669_eq_skeleton, k0_part670_eq_skeleton, k0_part671_eq_skeleton, k0_part672_eq_skeleton, k0_part673_eq_skeleton, k0_part674_eq_skeleton, k0_part675_eq_skeleton, k0_part676_eq_skeleton, k0_part677_eq_skeleton, k0_part678_eq_skeleton, k0_part679_eq_skeleton, k0_part680_eq_skeleton, k0_part681_eq_skeleton, k0_part682_eq_skeleton, k0_part683_eq_skeleton, k0_part684_eq_skeleton, k0_part685_eq_skeleton, k0_part686_eq_skeleton, k0_part687_eq_skeleton, k0_part688_eq_skeleton, k0_part689_eq_skeleton, k0_part690_eq_skeleton, k0_part691_eq_skeleton, k0_part692_eq_skeleton, k0_part693_eq_skeleton, k0_part694_eq_skeleton, k0_part695_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, ⟨%fs2, %hfs2, HS2⟩, ⟨%fs3, %hfs3, HS3⟩, ⟨%fs4, %hfs4, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs2; obtain rfl := harg13.eq_unread hfs3; obtain rfl := harg14.eq_unread hfs4; obtain rfl := harg16.eq_unread hfs6
    sl_exec (disch := first | sl_exact hc0 | sl_exact hc1)
    sl_step
    have h10 : arg10.view.read (Elt F) (arg10.view.writes (Elt F) arg10.view.junk (step_C.sl.HS0_1 c arg1 harg1 arg4 harg4 x0 x3)) = prodA x3 x0 := by
      refine (read_whole _ _ hz2 _ _ _).trans ?_
      unfold prodA
      refine congr (congrArg k0_pay22 ?_) ?_
      · exact load_whole _ _ hz2 _ _ (harg1.read_unread _)
      · exact congrArg (fun X => View.ld X _) (harg4.read_unread _)
    have h11 : arg11.view.read (Elt F) (arg11.view.writes (Elt F) arg11.view.junk (step_C.sl.HS1_1 c arg2 harg2 arg5 harg5 x1 x4)) = qrodA x4 x1 := by
      refine (read_whole _ _ hz2 _ _ _).trans ?_
      unfold qrodA
      refine congr (congrArg k0_pay23 ?_) ?_
      · exact load_whole _ _ hz2 _ _ (harg2.read_unread _)
      · exact congrArg (fun X => View.ld X _) (harg5.read_unread _)
    have h15 : arg15.view.read (Elt F) (arg15.view.writes (Elt F) arg15.view.junk (step_C.sl.HS5_448 c i arg7 harg7 arg12 harg12 arg13 harg13 arg14 harg14 arg16 harg16 x6 xs2 xs3 xs4 xs6)) = epi (k0_pay21 (F := F) i) xs2 xs3 x6 xs6 xs4 := by
      refine read_of_pieces _ _ _ _ (View.cover_of_tiledL _ S1x16x128.size (by sl_kernel_rfl)) ?_
      iterate 64
        refine PiecesOf.cons (pc1_6 (harg12.read_unread _) (harg13.read_unread _) (harg7.read_unread _) (harg16.read_unread _) (harg14.read_unread _) (by decide) (by decide) _ (by exact rfl)) ?_
        refine PiecesOf.cons (pc1_5 (harg12.read_unread _) (harg13.read_unread _) (harg7.read_unread _) (harg16.read_unread _) (harg14.read_unread _) (by decide) (by decide) _ (by exact rfl)) ?_
        refine PiecesOf.cons (pc1_4 (harg12.read_unread _) (harg13.read_unread _) (harg7.read_unread _) (harg16.read_unread _) (harg14.read_unread _) (by decide) (by decide) _ (by exact rfl)) ?_
        refine PiecesOf.cons (pc1_3 (harg12.read_unread _) (harg13.read_unread _) (harg7.read_unread _) (harg16.read_unread _) (harg14.read_unread _) (by decide) (by decide) _ (by exact rfl)) ?_
        refine PiecesOf.cons (pc1_2 (harg12.read_unread _) (harg13.read_unread _) (harg7.read_unread _) (harg16.read_unread _) (harg14.read_unread _) (by decide) (by decide) _ (by exact rfl)) ?_
        refine PiecesOf.cons (pc1_1 (harg12.read_unread _) (harg13.read_unread _) (harg7.read_unread _) (harg16.read_unread _) (harg14.read_unread _) (by decide) (by decide) _ (by exact rfl)) ?_
        refine PiecesOf.cons (pc1_0 (harg12.read_unread _) (harg13.read_unread _) (harg7.read_unread _) (harg16.read_unread _) (harg14.read_unread _) (by decide) (by decide) _ (by exact rfl)) ?_
      exact trivial
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _; isplitr; swap; · iexact H8
      ipureintro
      exact fin_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _ _ h15 (harg16.read_unread _)
    isplitl [HS0]
    · iexists _, _; isplitr; swap; · iexact HS0
      ipureintro; rfl
    isplitl [HS1]
    · iexists _, _; isplitr; swap; · iexact HS1
      ipureintro; rfl
    isplitl [HS2]
    · iexists _; isplitr; swap; · iexact HS2
      ipureintro
      refine (read_whole _ _ hz2 _ _ _).trans ?_
      unfold prodB
      refine congr (congrArg k0_pay22 ?_) ?_
      · exact load_whole _ _ hz2 _ _ (harg1.read_unread _)
      · exact congrArg (fun X => View.ld X _) (harg4.read_unread _)
    isplitl [HS3]
    · iexists _; isplitr; swap; · iexact HS3
      ipureintro
      refine (read_whole _ _ hz2 _ _ _).trans ?_
      unfold qrodB
      refine congr (congrArg k0_pay23 ?_) ?_
      · exact load_whole _ _ hz2 _ _ (harg2.read_unread _)
      · exact congrArg (fun X => View.ld X _) (harg5.read_unread _)
    isplitl [HS4]
    · iexists _; isplitr; swap; · iexact HS4
      ipureintro
      refine read_of_pieces _ _ _ _ (View.cover_of_tiledL _ S1x16x128.size (by sl_kernel_rfl)) ?_
      iterate 64
        refine PiecesOf.cons (pc2_6 (firstBit i) h10 h11 (harg6.read_unread _) (harg3.read_unread _) h15 (by decide) (by decide) _ (by exact rfl)) ?_
        refine PiecesOf.cons (pc2_5 (firstBit i) h10 h11 (harg6.read_unread _) (harg3.read_unread _) h15 (by decide) (by decide) _ (by exact rfl)) ?_
        refine PiecesOf.cons (pc2_4 (firstBit i) h10 h11 (harg6.read_unread _) (harg3.read_unread _) h15 (by decide) (by decide) _ (by exact rfl)) ?_
        refine PiecesOf.cons (pc2_3 (firstBit i) h10 h11 (harg6.read_unread _) (harg3.read_unread _) h15 (by decide) (by decide) _ (by exact rfl)) ?_
        refine PiecesOf.cons (pc2_2 (firstBit i) h10 h11 (harg6.read_unread _) (harg3.read_unread _) h15 (by decide) (by decide) _ (by exact rfl)) ?_
        refine PiecesOf.cons (pc2_1 (firstBit i) h10 h11 (harg6.read_unread _) (harg3.read_unread _) h15 (by decide) (by decide) _ (by exact rfl)) ?_
        refine PiecesOf.cons (pc2_0 (firstBit i) h10 h11 (harg6.read_unread _) (harg3.read_unread _) h15 (by decide) (by decide) _ (by exact rfl)) ?_
      exact trivial
    isplitl [HS5]
    · iexists _, _; isplitr; swap; · iexact HS5
      ipureintro; rfl
    iexists _; isplitr; swap; · iexact HS6
    ipureintro
    refine (read_whole _ _ hz2 _ _ _).trans ?_
    refine congrArg k0_pay4 ?_
    exact load_whole _ _ hz2 _ _ (harg3.read_unread _)

end Cert.FwdIdeal.Hand

end
-- ==== Proof.FwdFrame.lean ====
/- The run of `FwdIdeal` with its contents named: what the carried scratch and the block of closing values hold at each point, the pipeline's proof
   data over them, and the frame. -/
module

public import proofs.«01_k».proof.Proof.FwdState
public import proofs.«01_k».proof.Proof.FwdStepA
public import proofs.«01_k».proof.Proof.FwdStepB
public import proofs.«01_k».proof.Proof.FwdStepC
public import Idealize.ShloMosaic.Lib.Claim

@[expose] public section

set_option maxRecDepth 16384

noncomputable section

namespace Cert.FwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FwdIdeal Cert.FwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch and the generator register before point `n`: at first anything, afterwards the carried buffers at `stAt`. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (stAt m c (n + 1) hn).1 ∗ owns (c : Thread nD τ) scM0_3 fullShare (stAt m c (n + 1) hn).2.1 ∗ owns (c : Thread nD τ) scM0_4 fullShare (stAt m c (n + 1) hn).2.2.1 ∗ (∃ d, owns (c : Thread nD τ) scM0_5 fullShare d) ∗ owns (c : Thread nD τ) scM0_6 fullShare (stAt m c (n + 1) hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop((∃ d, owns (c : Thread nD τ) scM0_0 fullShare d) ∗ (∃ d, owns (c : Thread nD τ) scM0_1 fullShare d) ∗ owns (c : Thread nD τ) scM0_2 fullShare (stAt m c (n + 1) hn).1 ∗ owns (c : Thread nD τ) scM0_3 fullShare (stAt m c (n + 1) hn).2.1 ∗ owns (c : Thread nD τ) scM0_4 fullShare (stAt m c (n + 1) hn).2.2.1 ∗ (∃ d, owns (c : Thread nD τ) scM0_5 fullShare d) ∗ owns (c : Thread nD τ) scM0_6 fullShare (stAt m c (n + 1) hn).2.2.2) ∗ (∃ r, prngReg c r)) := rfl

theorem PhiS_pos (c : Dev nD) (n : ℕ) (hn : n ≤ cfg0.N) (hz : n ≠ 0) : PhiS m c n hn = iprop(iprop((∃ d, owns (c : Thread nD τ) scM0_0 fullShare d) ∗ (∃ d, owns (c : Thread nD τ) scM0_1 fullShare d) ∗ owns (c : Thread nD τ) scM0_2 fullShare (stAt m c n hn).1 ∗ owns (c : Thread nD τ) scM0_3 fullShare (stAt m c n hn).2.1 ∗ owns (c : Thread nD τ) scM0_4 fullShare (stAt m c n hn).2.2.1 ∗ (∃ d, owns (c : Thread nD τ) scM0_5 fullShare d) ∗ owns (c : Thread nD τ) scM0_6 fullShare (stAt m c n hn).2.2.2) ∗ (∃ r, prngReg c r)) := by
  cases n with
  | zero => exact absurd rfl hz
  | succ n => rfl

/-! ## The pipeline's proof data -/

/-- Of the logits' window nothing is named. -/
def forgets0 : Fin 9 → Bool := fun w => w.val == 7

/-- Each input's buffer at its block, the closing values at `finAt`, the scratch by `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => finAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = finAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The block of closing values is written back at the positive multiples of 48. -/
theorem flush0_8 : ∀ t : Fin cfg0.N, (cfg0.win 8).flush t = true ↔ (t.val % 48 = 0 ∧ t.val ≠ 0) :=
  (by decide +kernel : ∀ t : Fin grid0.N, win0_8.flush t = true ↔ (t.val % 48 = 0 ∧ t.val ≠ 0))

/-- It is idle at the points that close no row. -/
theorem idle0_8 : ∀ t : Fin cfg0.N, cfg0.idle 8 (grid0.coords t) = true ↔ t.val % 48 ≠ 0 :=
  (by decide +kernel : ∀ t : Fin grid0.N, cfg0.idle 8 (grid0.coords t) = true ↔ t.val % 48 ≠ 0)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_8 (c : Dev nD) (t : Fin cfg0.N) (h : t.val % 48 = 0) : (dats m 0 c).leavesExact 8 t = owns (c : Thread nD τ) (ms0_8 t) fullShare (finAt m c t) := by
  have hi : cfg0.idle 8 (cfg0.grid.coords t) = false := by rw [Bool.eq_false_iff, ne_eq, show cfg0.idle 8 (cfg0.grid.coords t) = true ↔ _ from idle0_8 t]; omega
  unfold Dat.leavesExact; rw [hi, after0_8]
theorem leaves0_8_idle (c : Dev nD) (t : Fin cfg0.N) (h : ¬t.val % 48 = 0) :
    (dats m 0 c).leavesExact 8 t = iprop(∃ d, owns (c : Thread nD τ) (ms0_8 t) fullShare ((dats m 0 c).before 8 t d)) :=
  (dats m 0 c).leavesExact_idle 8 t ((idle0_8 t).mpr h) (by rw [Bool.eq_false_iff, ne_eq, flush0_8]; omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (dats m 0 c).leavesExact 8 t)

theorem hfirst (t : Fin cfg0.N) : cond0_0 (grid0.coords t) ↔ t.val = 0 := by
  have hN : t.val < 865 := lt_of_lt_of_eq t.isLt (show cfg0.N = 865 from N_0)
  rw [hcond0_0, Nat.mod_eq_of_lt hN]

set_option maxHeartbeats 19200000 in
/-- The body at any point: the case the closed forms select, run at the point's blocks and carried contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    leaves0_0, leaves0_1, leaves0_2, leaves0_3, leaves0_4, leaves0_5, leaves0_6]
  rw [show (dats m 0 c).Φ t.succ = PhiS m c (t.val + 1) t.isLt from rfl, PhiS_succ, PhiS_castSucc, stAt_succ,
    show (⟨t.val, t.isLt⟩ : Fin cfg0.N) = t from rfl]
  by_cases h0 : t.val = 0
  · have h1 : t.val % 48 = 0 := by omega
    rw [PhiS_zero m c _ _ h0, PhiA0_eq, leaves0_8 m c t h1, nxt_first m c t _ h1]
    unfold finAt endS midS
    rw [stAt_zero m c t.val _ h0]
    dsimp only
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((step_A c (grid0.coords t) _ _ _ _ _ _ _ _ _ _ _ _ _ _ _ _ _ _ _ _ _ _ _ _ _ _ _ _ _ _ _ _ ((hfirst t).mpr h0) ((hcond0_1 t).mpr h1) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, HS0, HS1, HS2, HS3, HS4, HS5, HS6⟩
    isplitl [HS0 HS1 HS2 HS3 HS4 HS5 HS6 Hg]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ _ h0]
    by_cases h1 : t.val % 48 = 0
    · rw [leaves0_8 m c t h1, nxt_first m c t _ h1]
      unfold finAt endS midS
      dsimp only
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((step_C c (grid0.coords t) _ _ _ _ _ _ _ _ _ _ _ _ _ _ _ _ _ _ _ _ _ _ _ _ _ _ _ _ _ _ _ _ (fun h => h0 ((hfirst t).mp h)) ((hcond0_1 t).mpr h1) (iblk m c 0 t) (iblk m c 1 t) (iblk m c 2 t) (iblk m c 3 t) (iblk m c 4 t) (iblk m c 5 t) (iblk m c 6 t) (stAt m c t.val (Nat.le_of_lt t.isLt)).1 (stAt m c t.val (Nat.le_of_lt t.isLt)).2.1 (stAt m c t.val (Nat.le_of_lt t.isLt)).2.2.1 (stAt m c t.val (Nat.le_of_lt t.isLt)).2.2.2) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [leaves0_8_idle m c t h1, nxt_other m c t _ h1]
      unfold endS midS
      dsimp only
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((step_B c (grid0.coords t) _ _ _ _ _ _ _ _ _ _ _ _ _ _ _ _ _ _ _ _ _ _ _ _ _ _ _ _ _ _ _ _ (fun h => h0 ((hfirst t).mp h)) (fun h => h1 ((hcond0_1 t).mp h)) (iblk m c 0 t) (iblk m c 1 t) (iblk m c 2 t) (iblk m c 3 t) (iblk m c 4 t) (iblk m c 5 t) (iblk m c 6 t) (stAt m c t.val (Nat.le_of_lt t.isLt)).1 (stAt m c t.val (Nat.le_of_lt t.isLt)).2.1 (stAt m c t.val (Nat.le_of_lt t.isLt)).2.2.1 (stAt m c t.val (Nat.le_of_lt t.isLt)).2.2.2 ((dats m 0 c).before 8 t d8)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, HS0, HS1, HS2, HS3, HS4, HS5, HS6⟩
      isplitl [HS0 HS1 HS2 HS3 HS4 HS5 HS6 Hg]
      · isplitl [HS0 HS1 HS2 HS3 HS4 HS5 HS6]
        · isplitl [HS0]; · iexact HS0
          isplitl [HS1]; · iexact HS1
          isplitl [HS2]; · iexact HS2
          isplitl [HS3]; · iexact HS3
          isplitl [HS4]; · iexact HS4
          isplitl [HS5]; · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists d8; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexact HS0
    isplitl [HS1]
    · iexact HS1
    isplitl [HS2]
    · iexists _; iexact HS2
    isplitl [HS3]
    · iexists _; iexact HS3
    isplitl [HS4]
    · iexists _; iexact HS4
    isplitl [HS5]
    · iexact HS5
    iexists _; iexact HS6
  iexact Hg

theorem hout (c : Dev nD) : (dats m 0 c).Φ (Fin.last cfg0.N) ⊢ Pipeline.ΦA spec0 c :=
  Phi_out m c _ (by rw [Fin.val_last]; have : cfg0.N = 865 := N_0; omega)

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      (((dats m 0 c).toRForget_arrAt_iff (fgt := forgets0) (w := 0) rfl _ _).mp ((h c).1 0)).trans (((dats m 0 c).arrAt_in 0 rfl _).trans ((A_eq m c 0).trans (V_main_arg0 m c))),
      (((dats m 0 c).toRForget_arrAt_iff (fgt := forgets0) (w := 1) rfl _ _).mp ((h c).1 1)).trans (((dats m 0 c).arrAt_in 1 rfl _).trans ((A_eq m c 1).trans (V_main_arg1 m c))),
      (((dats m 0 c).toRForget_arrAt_iff (fgt := forgets0) (w := 2) rfl _ _).mp ((h c).1 2)).trans (((dats m 0 c).arrAt_in 2 rfl _).trans ((A_eq m c 2).trans (V_main_arg2 m c))),
      (((dats m 0 c).toRForget_arrAt_iff (fgt := forgets0) (w := 3) rfl _ _).mp ((h c).1 3)).trans (((dats m 0 c).arrAt_in 3 rfl _).trans ((A_eq m c 3).trans (V_main_arg3 m c))),
      (((dats m 0 c).toRForget_arrAt_iff (fgt := forgets0) (w := 4) rfl _ _).mp ((h c).1 4)).trans (((dats m 0 c).arrAt_in 4 rfl _).trans ((A_eq m c 4).trans (V_main_arg4 m c))),
      (((dats m 0 c).toRForget_arrAt_iff (fgt := forgets0) (w := 6) rfl _ _).mp ((h c).1 6)).trans (((dats m 0 c).arrAt_in 6 rfl _).trans ((A_eq m c 6).trans (V_main_arg5 m c)))⟩) (run_main m ρ)

/-- The arguments end as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.FwdIdeal.Hand

end
-- ==== Proof.FwdMath.lean ====
/- The running statistics of a softmax over the extended reals: taken four entries at a time, lane by lane, and merged at the end, they are the
   statistics of all the entries at once. -/
module

public import Idealize.ShloMosaic.Lib.Pointwise

@[expose] public section

noncomputable section

namespace Cert.FwdMath

open Idealize.ShloMosaic

/-- The exponential of a difference. -/
def E (a m : EReal) : EReal := Ideal.exp (a - m)

theorem exp_nonneg (x : EReal) : 0 ≤ Ideal.exp x := by
  induction x using EReal.rec with
  | bot => exact le_refl _
  | top => exact le_top
  | coe r => exact EReal.coe_nonneg.mpr (Real.exp_pos r).le

theorem E_nonneg (a m : EReal) : 0 ≤ E a m := exp_nonneg _

theorem exp_ne_top (x : EReal) (h : x ≠ ⊤) : Ideal.exp x ≠ ⊤ := by
  induction x using EReal.rec with
  | bot => exact EReal.zero_ne_top
  | top => exact absurd rfl h
  | coe r => exact EReal.coe_ne_top _

theorem E_top (a : EReal) : E a ⊤ = 0 := by
  unfold E; rw [EReal.sub_top]; rfl

theorem E_bot (m : EReal) : E ⊥ m = 0 := by
  unfold E; rw [EReal.bot_sub]; rfl

theorem E_coe (a b : ℝ) : E (a : EReal) (b : EReal) = ((Real.exp (a - b) : ℝ) : EReal) := by
  unfold E; rw [← EReal.coe_sub]; rfl

/-- Below its maximum an exponential of a difference is finite. -/
theorem E_ne_top (a m : EReal) (h : a ≤ m) : E a m ≠ ⊤ := by
  induction m using EReal.rec with
  | bot => rw [le_bot_iff.mp h, E_bot]; exact EReal.zero_ne_top
  | top => rw [E_top]; exact EReal.zero_ne_top
  | coe m =>
    induction a using EReal.rec with
    | bot => rw [E_bot]; exact EReal.zero_ne_top
    | top => exact absurd (top_le_iff.mp h) (EReal.coe_ne_top m)
    | coe a => rw [E_coe]; exact EReal.coe_ne_top _

/-- Rescaling to a larger maximum. -/
theorem E_mul (a m n : EReal) (h : a ≤ m) (h' : m ≤ n) : E a m * E m n = E a n := by
  induction n using EReal.rec with
  | top => rw [E_top, E_top, mul_zero]
  | bot =>
    obtain rfl := le_bot_iff.mp h'
    obtain rfl := le_bot_iff.mp h
    rw [E_bot, mul_zero]
  | coe n =>
    induction m using EReal.rec with
    | top => exact absurd (top_le_iff.mp h') (EReal.coe_ne_top n)
    | bot => obtain rfl := le_bot_iff.mp h; rw [E_bot, E_bot, mul_zero]
    | coe m =>
      induction a using EReal.rec with
      | top => exact absurd (top_le_iff.mp h) (EReal.coe_ne_top m)
      | bot => rw [E_bot, E_bot, zero_mul]
      | coe a =>
        rw [E_coe, E_coe, E_coe, ← EReal.coe_mul, ← Real.exp_add]
        congr 2; ring

/-- A finite factor that is not negative goes into a sum. -/
theorem sum_mul' {ι : Type} (S : Finset ι) (g : ι → EReal) (x : EReal) (h0 : 0 ≤ x) (h1 : x ≠ ⊤) : (∑ i ∈ S, g i) * x = ∑ i ∈ S, g i * x := by
  classical
  induction S using Finset.induction_on with
  | empty => rw [Finset.sum_empty, Finset.sum_empty, zero_mul]
  | insert a S ha ih => rw [Finset.sum_insert ha, Finset.sum_insert ha, EReal.right_distrib_of_nonneg_of_ne_top h0 h1, ih]

/-- The maximum of the first `n` entries. -/
def mx (f : ℕ → EReal) (n : ℕ) : EReal := (Finset.range n).sup f

/-- The sum of the exponentials of the first `n` entries' distances to a bound, weighted. -/
def ws (f d : ℕ → EReal) (M : EReal) (n : ℕ) : EReal := ∑ i ∈ Finset.range n, E (f i) M * d i

/-- The sum of the exponentials of the first `n` entries' distances to a bound. -/
def es (f : ℕ → EReal) (M : EReal) (n : ℕ) : EReal := ∑ i ∈ Finset.range n, E (f i) M

theorem le_mx (f : ℕ → EReal) (n i : ℕ) (h : i < n) : f i ≤ mx f n := Finset.le_sup (f := f) (Finset.mem_range.mpr h)

theorem mx_succ (f : ℕ → EReal) (n : ℕ) : mx f (n + 1) = max (mx f n) (f n) := by
  unfold mx; rw [Finset.range_add_one, Finset.sup_insert]; exact max_comm _ _

theorem mx_4 (f : ℕ → EReal) (n : ℕ) : mx f (n + 4) = max (max (max (max (mx f n) (f n)) (f (n + 1))) (f (n + 2))) (f (n + 3)) := by
  rw [show n + 4 = n + 3 + 1 from rfl, mx_succ, show n + 3 = n + 2 + 1 from rfl, mx_succ, show n + 2 = n + 1 + 1 from rfl, mx_succ, mx_succ]

theorem mx_mono (f : ℕ → EReal) (n k : ℕ) (h : n ≤ k) : mx f n ≤ mx f k :=
  Finset.sup_mono (Finset.range_subset_range.mpr h)

theorem es_scale (f : ℕ → EReal) (n : ℕ) (M : EReal) (h : mx f n ≤ M) : es f (mx f n) n * E (mx f n) M = es f M n := by
  unfold es
  rw [sum_mul' _ _ _ (E_nonneg _ _) (E_ne_top _ _ h)]
  exact Finset.sum_congr rfl fun i hi => E_mul _ _ _ (le_mx f n i (Finset.mem_range.mp hi)) h

theorem ws_scale (f d : ℕ → EReal) (n : ℕ) (M : EReal) (h : mx f n ≤ M) : ws f d (mx f n) n * E (mx f n) M = ws f d M n := by
  unfold ws
  rw [sum_mul' _ _ _ (E_nonneg _ _) (E_ne_top _ _ h)]
  refine Finset.sum_congr rfl fun i hi => ?_
  rw [mul_right_comm, E_mul _ _ _ (le_mx f n i (Finset.mem_range.mp hi)) h]

theorem es_4 (f : ℕ → EReal) (n : ℕ) :
    es f (mx f (n + 4)) (n + 4) = es f (mx f n) n * E (mx f n) (mx f (n + 4)) + E (f n) (mx f (n + 4)) + E (f (n + 1)) (mx f (n + 4)) + E (f (n + 2)) (mx f (n + 4))
      + E (f (n + 3)) (mx f (n + 4)) := by
  rw [es_scale f n _ (mx_mono f n (n + 4) (by omega))]
  generalize mx f (n + 4) = M
  unfold es
  rw [show n + 4 = n + 3 + 1 from rfl, Finset.sum_range_succ, show n + 3 = n + 2 + 1 from rfl, Finset.sum_range_succ, show n + 2 = n + 1 + 1 from rfl,
    Finset.sum_range_succ, Finset.sum_range_succ]

theorem ws_4 (f d : ℕ → EReal) (n : ℕ) :
    ws f d (mx f (n + 4)) (n + 4) = ws f d (mx f n) n * E (mx f n) (mx f (n + 4)) + E (f n) (mx f (n + 4)) * d n + E (f (n + 1)) (mx f (n + 4)) * d (n + 1)
      + E (f (n + 2)) (mx f (n + 4)) * d (n + 2) + E (f (n + 3)) (mx f (n + 4)) * d (n + 3) := by
  rw [ws_scale f d n _ (mx_mono f n (n + 4) (by omega))]
  generalize mx f (n + 4) = M
  unfold ws
  rw [show n + 4 = n + 3 + 1 from rfl, Finset.sum_range_succ, show n + 3 = n + 2 + 1 from rfl, Finset.sum_range_succ, show n + 2 = n + 1 + 1 from rfl,
    Finset.sum_range_succ, Finset.sum_range_succ]

theorem sum_4 (g : ℕ → EReal) (n : ℕ) :
    ∑ i ∈ Finset.range (n + 4), g i = ∑ i ∈ Finset.range n, g i + g n + g (n + 1) + g (n + 2) + g (n + 3) := by
  rw [show n + 4 = n + 3 + 1 from rfl, Finset.sum_range_succ, show n + 3 = n + 2 + 1 from rfl, Finset.sum_range_succ, show n + 2 = n + 1 + 1 from rfl,
    Finset.sum_range_succ, Finset.sum_range_succ]

/-! ## The lanes merged -/

/-- Lane `l` of a row: every 128th entry from entry `l`. -/
def lane (f : ℕ → EReal) (l : ℕ) : ℕ → EReal := fun n => f (128 * n + l)

theorem lanes_sum (g : ℕ → EReal) (n : ℕ) : ∑ l ∈ Finset.range 128, ∑ i ∈ Finset.range n, lane g l i = ∑ v ∈ Finset.range (128 * n), g v := by
  induction n with
  | zero => simp
  | succ n ih =>
    simp only [Finset.sum_range_succ _ n, Finset.sum_add_distrib]
    rw [ih, show 128 * (n + 1) = 128 * n + 128 by omega, Finset.sum_range_add]
    rfl

theorem lanes_mx (f : ℕ → EReal) (n : ℕ) : mx (fun l => mx (lane f l) n) 128 = mx f (128 * n) := by
  refine le_antisymm (Finset.sup_le fun l hl => Finset.sup_le fun i hi => ?_) (Finset.sup_le fun v hv => ?_)
  · have := Finset.mem_range.mp hl; have := Finset.mem_range.mp hi
    exact le_mx f (128 * n) (128 * i + l) (by omega)
  · have := Finset.mem_range.mp hv
    have e : f v = lane f (v % 128) (v / 128) := by unfold lane; congr 1; omega
    rw [e]
    exact (le_mx (lane f (v % 128)) n (v / 128) (by omega)).trans (le_mx (fun l => mx (lane f l) n) 128 (v % 128) (by omega))

theorem lanes_es (f : ℕ → EReal) (n : ℕ) :
    ∑ l ∈ Finset.range 128, es (lane f l) (mx (lane f l) n) n * E (mx (lane f l) n) (mx f (128 * n)) = es f (mx f (128 * n)) (128 * n) := by
  rw [show es f (mx f (128 * n)) (128 * n) = ∑ v ∈ Finset.range (128 * n), (fun v => E (f v) (mx f (128 * n))) v from rfl, ← lanes_sum]
  refine Finset.sum_congr rfl fun l hl => ?_
  rw [es_scale]
  · rfl
  · rw [← lanes_mx]; exact le_mx (fun l => mx (lane f l) n) 128 l (Finset.mem_range.mp hl)

theorem lanes_ws (f d : ℕ → EReal) (n : ℕ) :
    ∑ l ∈ Finset.range 128, ws (lane f l) (lane d l) (mx (lane f l) n) n * E (mx (lane f l) n) (mx f (128 * n)) = ws f d (mx f (128 * n)) (128 * n) := by
  rw [show ws f d (mx f (128 * n)) (128 * n) = ∑ v ∈ Finset.range (128 * n), (fun v => E (f v) (mx f (128 * n)) * d v) v from rfl, ← lanes_sum]
  refine Finset.sum_congr rfl fun l hl => ?_
  rw [ws_scale]
  · rfl
  · rw [← lanes_mx]; exact le_mx (fun l => mx (lane f l) n) 128 l (Finset.mem_range.mp hl)

/-- A maximum over the numbers below `n`. -/
theorem fold_mx (n : ℕ) (b : EReal) (hb : b = ⊥) (g : Fin n → EReal) (f : ℕ → EReal) (h : ∀ i : Fin n, g i = f i.val) :
    (Finset.univ : Finset (Fin n)).fold max b g = mx f n := by
  subst hb
  show (Finset.univ : Finset (Fin n)).sup g = _
  refine le_antisymm (Finset.sup_le fun i _ => ?_) (Finset.sup_le fun i hi => ?_)
  · rw [h]; exact le_mx f n i.val i.isLt
  · have hi := Finset.mem_range.mp hi
    exact (h ⟨i, hi⟩).symm.le.trans (Finset.le_sup (f := g) (Finset.mem_univ (⟨i, hi⟩ : Fin n)))

/-- A sum over the numbers below `n`. -/
theorem sum_fin (n : ℕ) (g : Fin n → EReal) (f : ℕ → EReal) (h : ∀ i : Fin n, g i = f i.val) : ∑ i : Fin n, g i = ∑ i ∈ Finset.range n, f i := by
  rw [← Fin.sum_univ_eq_sum_range]; exact Finset.sum_congr rfl fun i _ => h i

end Cert.FwdMath

end
-- ==== Proof.FwdSpec.lean ====
/- What the forward call computes, over the extended reals, as one formula of its arguments. -/
module

public import proofs.«01_k».proof.Proof.FwdMath
public import proofs.«01_k».proof.FwdIdeal

@[expose] public section

noncomputable section

namespace Cert.FwdMath

open Idealize.ShloMosaic Idealize.ShloMosaic.TcCoe
open Cert.FwdIdeal

/-- Five numbers on the lanes 0 to 4, zero on the others. -/
def pack (x0 x1 x2 x3 x4 : EReal) (l : Fin 128) : EReal :=
  Scalar.select (IntOp.cmpi .eq (BitVec.ofNat 32 l.val) 4#32) x4
    (Scalar.select (IntOp.cmpi .eq (BitVec.ofNat 32 l.val) 3#32) x3
      (Scalar.select (IntOp.cmpi .eq (BitVec.ofNat 32 l.val) 2#32) x2
        (Scalar.select (IntOp.cmpi .eq (BitVec.ofNat 32 l.val) 1#32) x1
          (Scalar.select (IntOp.cmpi .eq (BitVec.ofNat 32 l.val) 0#32) x0 0))))

/-- Score `v` where `v` is the target's number, zero elsewhere. -/
def hit (tg : EReal) (x : ℕ → EReal) (v : ℕ) : EReal := Scalar.select (Ideal.cmp .oeq tg ((v : ℝ) : EReal)) (x v) 0

/-- The target's score of a row. -/
def score (tg : EReal) (x : ℕ → EReal) : EReal := ∑ v ∈ Finset.range 49152, hit tg x v

/-- The logarithm of the sum of the exponentials of a row's scores, taken about their maximum. -/
def lse (x : ℕ → EReal) : EReal := mx x 49152 + Ideal.log (es x (mx x 49152) 49152)

/-- The mean, under the softmax of the scores `p`, of the differences of the scores `p` and `q`. -/
def mean (p q : ℕ → EReal) : EReal := Ideal.div (ws p (fun v => p v - q v) (mx p 49152) 49152) (es p (mx p 49152) 49152)

/-- The closing values of a row with scores `p` and `q`, target `tg` and advantage `adv`. -/
def rowOut (p q : ℕ → EReal) (tg adv : EReal) (l : Fin 128) : EReal :=
  pack (score tg p - lse p) (score tg q - lse q) (mean p q - lse p + lse q) (lse p) (adv - Ideal.ofBits .f32 0x3E4CCCCD#32 * mean p q) l

/-- Score `v` of row `R`: the product of the codes, scaled by the row's and the block's scale. -/
def zp (codes : FVec Ideal S18432x2048 .fp8e4m3) (rec : FVec Ideal S18432x128 .f32) (w : FVec Ideal S49152x2048 .fp8e4m3) (s : FVec Ideal S96x1x512 .f32) (R v : ℕ) : EReal :=
  (∑ k : Fin 2048, codes (ix2 (Fin.ofNat 18432 R) k) * w (ix2 (Fin.ofNat 49152 v) k))
    * (rec (ix2 (Fin.ofNat 18432 R) (0 : Fin 128)) * s (ix3 (Fin.ofNat 96 (v / 512)) (0 : Fin 1) (Fin.ofNat 512 v)))

/-- Reference score `v` of row `R`. -/
def zq (x : FVec Ideal S18432x2048 .bf16) (w : FVec Ideal S49152x2048 .bf16) (R v : ℕ) : EReal :=
  ∑ k : Fin 2048, x (ix2 (Fin.ofNat 18432 R) k) * w (ix2 (Fin.ofNat 49152 v) k)

/-- The closing values of all rows, as one array of the arguments. -/
def fwdOut (codes : FVec Ideal S18432x2048 .fp8e4m3) (x : FVec Ideal S18432x2048 .bf16) (rec : FVec Ideal S18432x128 .f32) (w : FVec Ideal S49152x2048 .fp8e4m3)
    (wr : FVec Ideal S49152x2048 .bf16) (s : FVec Ideal S96x1x512 .f32) : FVec Ideal S18432x128 .f32 :=
  fun i => rowOut (zp codes rec w s (i 0).val) (zq x wr (i 0).val) (rec (ix2 (Fin.ofNat 18432 (i 0).val) (1 : Fin 128))) (rec (ix2 (Fin.ofNat 18432 (i 0).val) (2 : Fin 128))) (i 1)

end Cert.FwdMath

end
-- ==== Proof.FwdClose.lean ====
/- The closing of 32 rows over the extended reals, in terms of the lanes' statistics. -/
module

public import proofs.«01_k».proof.Proof.FwdFin
public import proofs.«01_k».proof.Proof.FwdSpec

@[expose] public section

set_option maxRecDepth 16384

noncomputable section

namespace Cert.FwdIdeal.Hand

open Idealize.ShloMosaic Idealize.ShloMosaic.TcCoe
open Cert.FwdIdeal Cert.FwdIdeal.Gen Cert.FwdMath

theorem ofBits_ninf : Ideal.ofBits .f32 0xFF800000#32 = (⊥ : EReal) := by
  simp [Ideal.ofBits, Ideal.ieee]

variable (s0 s1 s2 s3 s4 s5 s6 : Vec Ideal S1x32x128 .f32) (r : Fin 32)

theorem pay6_at (f : ℕ → EReal) (h0 : ∀ l : Fin 128, s0 (ix3 (0 : Fin 1) r l) = f l.val) : k0_pay6 (F := Ideal) s0 (ix2 r (0 : Fin 1)) = mx f 128 := by
  pointwise [k0_pay6, k0_pay5]
  exact fold_mx 128 _ ofBits_ninf _ f h0

theorem pay8_at (f g : ℕ → EReal) (h0 : ∀ l : Fin 128, s0 (ix3 (0 : Fin 1) r l) = f l.val) (h2 : ∀ l : Fin 128, s2 (ix3 (0 : Fin 1) r l) = g l.val) :
    k0_pay8 (F := Ideal) s0 s2 (ix2 r (0 : Fin 1)) = ∑ l ∈ Finset.range 128, g l * E (f l) (mx f 128) := by
  have h6 := pay6_at s0 r f h0
  generalize e : k0_pay6 (F := Ideal) s0 = y at h6
  pointwise [k0_pay8, k0_pay7, k0_pay5, e]
  refine sum_fin 128 _ (fun l => g l * E (f l) (mx f 128)) fun l => ?_
  rw [h0, h2, h6]; rfl

theorem pay9_at (f g : ℕ → EReal) (h0 : ∀ l : Fin 128, s0 (ix3 (0 : Fin 1) r l) = f l.val) (h2 : ∀ l : Fin 128, s2 (ix3 (0 : Fin 1) r l) = g l.val) :
    k0_pay9 (F := Ideal) s0 s2 (ix2 r (0 : Fin 1)) = mx f 128 + Ideal.log (∑ l ∈ Finset.range 128, g l * E (f l) (mx f 128)) := by
  rw [← pay8_at s0 s2 r f g h0 h2, ← pay6_at s0 r f h0]; rfl

theorem pay10_at (f g : ℕ → EReal) (h1 : ∀ l : Fin 128, s1 (ix3 (0 : Fin 1) r l) = f l.val) (h3 : ∀ l : Fin 128, s3 (ix3 (0 : Fin 1) r l) = g l.val) :
    k0_pay10 (F := Ideal) s1 s3 (ix2 r (0 : Fin 1)) = mx f 128 + Ideal.log (∑ l ∈ Finset.range 128, g l * E (f l) (mx f 128)) := by
  rw [← pay9_at s1 s3 r f g h1 h3]; rfl

theorem pay11_at (f g : ℕ → EReal) (h0 : ∀ l : Fin 128, s0 (ix3 (0 : Fin 1) r l) = f l.val) (h4 : ∀ l : Fin 128, s4 (ix3 (0 : Fin 1) r l) = g l.val) :
    k0_pay11 (F := Ideal) s0 s4 (ix1 r) = ∑ l ∈ Finset.range 128, g l * E (f l) (mx f 128) := by
  have h6 := pay6_at s0 r f h0
  generalize e : k0_pay6 (F := Ideal) s0 = y at h6
  pointwise [k0_pay11, k0_pay7, k0_pay5, e]
  refine sum_fin 128 _ (fun l => g l * E (f l) (mx f 128)) fun l => ?_
  rw [h0, h4, h6]; rfl

/-- The closing values of one row. -/
theorem close_at (a8 a9 a10 : FVec Ideal S32x1 .f32) (a11 : FVec Ideal S32 .f32) (av : Vec Ideal S32x1 .f32) (f5 f6 : ℕ → EReal)
    (h5 : ∀ l : Fin 128, s5 (ix3 (0 : Fin 1) r l) = f5 l.val) (h6 : ∀ l : Fin 128, s6 (ix3 (0 : Fin 1) r l) = f6 l.val) (l : Fin 128) :
    k0_pay3 (F := Ideal) (k0_pay13 a8 a9 a10 a11 s5 s6) k0_pay14 (k0_pay15 a8 a11 av) (ix2 r l)
      = pack (∑ l ∈ Finset.range 128, f5 l - a9 (ix2 r (0 : Fin 1))) (∑ l ∈ Finset.range 128, f6 l - a10 (ix2 r (0 : Fin 1)))
          (Ideal.div (a11 (ix1 r)) (a8 (ix2 r (0 : Fin 1))) - a9 (ix2 r (0 : Fin 1)) + a10 (ix2 r (0 : Fin 1))) (a9 (ix2 r (0 : Fin 1)))
          (av (ix2 r (0 : Fin 1)) - Ideal.ofBits .f32 0x3E4CCCCD#32 * Ideal.div (a11 (ix1 r)) (a8 (ix2 r (0 : Fin 1)))) l := by
  rw [← sum_fin 128 _ f5 h5, ← sum_fin 128 _ f6 h6]
  pointwise [k0_pay3, k0_pay13, k0_pay14, k0_pay15, k0_pay12, pack]

end Cert.FwdIdeal.Hand

end
-- ==== Proof.FwdInv.lean ====
/- One half tile's step and the closing of a row of tiles over the extended reals: statistics that cover the first entries of every lane cover four
   more after a step, and once they cover all entries the closing values are the formula's. -/
module

public import proofs.«01_k».proof.Proof.FwdClose

@[expose] public section

set_option maxRecDepth 16384

noncomputable section

namespace Cert.FwdIdeal.Hand

open Idealize.ShloMosaic Idealize.ShloMosaic.TcCoe
open Cert.FwdIdeal Cert.FwdIdeal.Gen Cert.FwdMath

/-- The seven statistics of a row and a lane are those of the lane's first `n` entries. -/
structure Covers (st : Vec Ideal S7x1024x128 .f32) (R : Fin 1024) (l : Fin 128) (p q : ℕ → EReal) (tg : EReal) (n : ℕ) : Prop where
  c0 : st (ix3 (0 : Fin 7) R l) = mx (lane p l.val) n
  c1 : st (ix3 (1 : Fin 7) R l) = mx (lane q l.val) n
  c2 : st (ix3 (2 : Fin 7) R l) = es (lane p l.val) (mx (lane p l.val) n) n
  c3 : st (ix3 (3 : Fin 7) R l) = es (lane q l.val) (mx (lane q l.val) n) n
  c4 : st (ix3 (4 : Fin 7) R l) = ws (lane p l.val) (lane (fun v => p v - q v) l.val) (mx (lane p l.val) n) n
  c5 : st (ix3 (5 : Fin 7) R l) = ∑ i ∈ Finset.range n, lane (hit tg p) l.val i
  c6 : st (ix3 (6 : Fin 7) R l) = ∑ i ∈ Finset.range n, lane (hit tg q) l.val i

/-- A target minus a base is the column exactly when the target is the base plus the column. -/
theorem sub_eq_iff (x : EReal) (a b : ℝ) : x - (a : EReal) = (b : EReal) ↔ x = ((a + b : ℝ) : EReal) := by
  induction x using EReal.rec with
  | bot => rw [EReal.bot_sub]; exact ⟨fun h => absurd h.symm (EReal.coe_ne_bot _), fun h => absurd h.symm (EReal.coe_ne_bot _)⟩
  | top => rw [EReal.top_sub_coe]; exact ⟨fun h => absurd h.symm (EReal.coe_ne_top _), fun h => absurd h.symm (EReal.coe_ne_top _)⟩
  | coe r => rw [← EReal.coe_sub, EReal.coe_eq_coe_iff, EReal.coe_eq_coe_iff]; constructor <;> intro h <;> linarith

theorem ofBits_128 : Ideal.ofBits .f32 0x43000000#32 = ((128 : ℝ) : EReal) := by
  simp [Ideal.ofBits, Ideal.ieee]; rw [← EReal.coe_mul]; congr 1; norm_num
theorem ofBits_256 : Ideal.ofBits .f32 0x43800000#32 = ((256 : ℝ) : EReal) := by
  simp [Ideal.ofBits, Ideal.ieee]; rw [← EReal.coe_mul]; congr 1; norm_num
theorem ofBits_384 : Ideal.ofBits .f32 0x43C00000#32 = ((384 : ℝ) : EReal) := by
  simp [Ideal.ofBits, Ideal.ieee]; rw [← EReal.coe_mul]; congr 1; norm_num
theorem ofBits_0 : Ideal.ofBits .f32 0x00000000#32 = ((0 : ℝ) : EReal) := by
  rw [Ideal.ofBits_zero_f32]; exact EReal.coe_zero.symm

theorem lane_ideal (l : Fin 128) : FloatOps.sitofp (F := Ideal) .f32 (BitVec.ofNat 32 l.val) = ((l.val : ℝ) : EReal) := by
  show (((BitVec.ofNat 32 l.val).toInt : ℝ) : EReal) = _
  have hn := l.isLt
  rw [BitVec.toInt_eq_toNat_of_lt (by rw [BitVec.toNat_ofNat]; omega), BitVec.toNat_ofNat, Nat.mod_eq_of_lt (by omega), Int.cast_natCast]

/-- The selected score is the score at the target's number. -/
theorem hit_of (tg base lan off a : EReal) (B L O v : ℕ) (x : ℕ → EReal) (hB : base = ((B : ℝ) : EReal)) (hL : lan = ((L : ℝ) : EReal)) (hO : off = ((O : ℝ) : EReal))
    (hv : v = B + L + O) (ha : a = x v) :
    Scalar.select (Ideal.cmp .oeq (tg - base) (lan + off)) a (Ideal.ofBits .f32 0x00000000#32) = hit tg x v := by
  subst hB hL hO hv ha
  unfold hit
  rw [Ideal.ofBits_zero_f32, ← EReal.coe_add]
  have e : Ideal.cmp .oeq (tg - ((B : ℝ) : EReal)) (((L : ℝ) + (O : ℝ) : ℝ) : EReal) = Ideal.cmp .oeq tg (((B + L + O : ℕ) : ℝ) : EReal) := by
    rw [show (((B + L + O : ℕ)) : ℝ) = (B : ℝ) + ((L : ℝ) + (O : ℝ)) by push_cast; ring]
    unfold Ideal.cmp; simp only [sub_eq_iff]
  rw [e]

theorem hm4_ideal (tg base a b c d s : EReal) (l : Fin 128) (k : ℕ) (x : ℕ → EReal) (hB : base = ((512 * k : ℕ) : ℝ))
    (hs : s = ∑ i ∈ Finset.range (4 * k), lane (hit tg x) l.val i)
    (ha : a = x (512 * k + (0 + l.val))) (hb : b = x (512 * k + (128 + l.val))) (hc : c = x (512 * k + (256 + l.val))) (hd : d = x (512 * k + (384 + l.val))) :
    hm4 (F := Ideal) (tg - base : EReal) (FloatOps.sitofp (F := Ideal) .f32 (BitVec.ofNat 32 l.val)) s a b c d = ∑ i ∈ Finset.range (4 * (k + 1)), lane (hit tg x) l.val i := by
  rw [show 4 * (k + 1) = 4 * k + 4 by omega, sum_4, ← hs]
  have e0 := hit_of tg base _ _ a (512 * k) l.val 0 (128 * (4 * k) + l.val) x hB (lane_ideal l) (ofBits_0.trans (by norm_num)) (by omega) (ha.trans (congrArg x (by omega)))
  have e1 := hit_of tg base _ _ b (512 * k) l.val 128 (128 * (4 * k + 1) + l.val) x hB (lane_ideal l) (ofBits_128.trans (by norm_num)) (by omega) (hb.trans (congrArg x (by omega)))
  have e2 := hit_of tg base _ _ c (512 * k) l.val 256 (128 * (4 * k + 2) + l.val) x hB (lane_ideal l) (ofBits_256.trans (by norm_num)) (by omega) (hc.trans (congrArg x (by omega)))
  have e3 := hit_of tg base _ _ d (512 * k) l.val 384 (128 * (4 * k + 3) + l.val) x hB (lane_ideal l) (ofBits_384.trans (by norm_num)) (by omega) (hd.trans (congrArg x (by omega)))
  have f0 : lane (hit tg x) l.val (4 * k) = _ := e0.symm
  have f1 : lane (hit tg x) l.val (4 * k + 1) = _ := e1.symm
  have f2 : lane (hit tg x) l.val (4 * k + 2) = _ := e2.symm
  have f3 : lane (hit tg x) l.val (4 * k + 3) = _ := e3.symm
  rw [f0, f1, f2, f3]
  rfl

theorem mx4_ideal (f : ℕ → EReal) (n : ℕ) : mx4 (F := Ideal) (mx f n) (f n) (f (n + 1)) (f (n + 2)) (f (n + 3)) = mx f (n + 4) := (mx_4 f n).symm

theorem sm4_ideal (f : ℕ → EReal) (n : ℕ) :
    sm4 (F := Ideal) (mx f n) (es f (mx f n) n) (f n) (f (n + 1)) (f (n + 2)) (f (n + 3)) = es f (mx f (n + 4)) (n + 4) := by
  unfold sm4; rw [mx4_ideal]; exact (es_4 f n).symm

theorem tm4_ideal (f g d : ℕ → EReal) (n : ℕ) (hd : ∀ i, d i = f i - g i) :
    tm4 (F := Ideal) (mx f n) (ws f d (mx f n) n) (f n) (f (n + 1)) (f (n + 2)) (f (n + 3)) (g n) (g (n + 1)) (g (n + 2)) (g (n + 3)) = ws f d (mx f (n + 4)) (n + 4) := by
  unfold tm4; rw [mx4_ideal, ws_4, hd n, hd (n + 1), hd (n + 2), hd (n + 3)]; rfl

/-- One half tile more. -/
theorem epi_covers (base : EReal) (accp accq : Vec Ideal S1024x512 .f32) (wps : Vec Ideal S1x1x512 .f32) (rec : Vec Ideal S1024x128 .f32) (st : Vec Ideal S7x1024x128 .f32)
    (R : Fin 1024) (l : Fin 128) (p q : ℕ → EReal) (tg : EReal) (k : ℕ) (hB : base = ((512 * k : ℕ) : ℝ))
    (hp : ∀ c : Fin 512, zpAt accp wps rec R c = p (512 * k + c.val)) (hq : ∀ c : Fin 512, accq (ix2 R c) = q (512 * k + c.val))
    (ht : rec (ix2 R (1 : Fin 128)) = tg) (h : Covers st R l p q tg (4 * k)) : Covers (epi (F := Ideal) base accp accq wps rec st) R l p q tg (4 * (k + 1)) := by
  have e (x : ℕ → EReal) (j o : ℕ) (ho : o = 128 * j) : x (512 * k + (o + l.val)) = lane x l.val (4 * k + j) := by
    unfold lane; congr 1; omega
  have p0 : zpAt accp wps rec R (cL 0 (by decide) l) = lane p l.val (4 * k) := (hp _).trans (e p 0 0 rfl)
  have p1 : zpAt accp wps rec R (cL 128 (by decide) l) = lane p l.val (4 * k + 1) := (hp _).trans (e p 1 128 rfl)
  have p2 : zpAt accp wps rec R (cL 256 (by decide) l) = lane p l.val (4 * k + 2) := (hp _).trans (e p 2 256 rfl)
  have p3 : zpAt accp wps rec R (cL 384 (by decide) l) = lane p l.val (4 * k + 3) := (hp _).trans (e p 3 384 rfl)
  have q0 : accq (ix2 R (cL 0 (by decide) l)) = lane q l.val (4 * k) := (hq _).trans (e q 0 0 rfl)
  have q1 : accq (ix2 R (cL 128 (by decide) l)) = lane q l.val (4 * k + 1) := (hq _).trans (e q 1 128 rfl)
  have q2 : accq (ix2 R (cL 256 (by decide) l)) = lane q l.val (4 * k + 2) := (hq _).trans (e q 2 256 rfl)
  have q3 : accq (ix2 R (cL 384 (by decide) l)) = lane q l.val (4 * k + 3) := (hq _).trans (e q 3 384 rfl)
  have e4 : 4 * (k + 1) = 4 * k + 4 := by omega
  refine ⟨?_, ?_, ?_, ?_, ?_, ?_, ?_⟩
  · rw [e4]; refine (epi_0 ..).trans ?_; rw [h.c0, p0, p1, p2, p3]; exact mx4_ideal _ _
  · rw [e4]; refine (epi_1 ..).trans ?_; rw [h.c1, q0, q1, q2, q3]; exact mx4_ideal _ _
  · rw [e4]; refine (epi_2 ..).trans ?_; rw [h.c0, h.c2, p0, p1, p2, p3]; exact sm4_ideal _ _
  · rw [e4]; refine (epi_3 ..).trans ?_; rw [h.c1, h.c3, q0, q1, q2, q3]; exact sm4_ideal _ _
  · rw [e4]; refine (epi_4 ..).trans ?_; rw [h.c0, h.c4, p0, p1, p2, p3, q0, q1, q2, q3]; exact tm4_ideal _ _ _ _ (fun _ => rfl)
  · refine (epi_5 ..).trans ?_
    rw [ht]
    exact hm4_ideal tg base _ _ _ _ _ l k p hB h.c5 (hp _) (hp _) (hp _) (hp _)
  · refine (epi_6 ..).trans ?_
    rw [ht]
    exact hm4_ideal tg base _ _ _ _ _ l k q hB h.c6 (hq _) (hq _) (hq _) (hq _)

/-- Fresh statistics cover nothing. -/
theorem fresh_covers (st : Vec Ideal S7x1024x128 .f32) (R : Fin 1024) (l : Fin 128) (p q : ℕ → EReal) (tg : EReal) :
    Covers (selSt (F := Ideal) 1#1 st) R l p q tg 0 := by
  have z (k : Fin 7) (hk : ¬k.val < 2) : selSt (F := Ideal) 1#1 st (ix3 k R l) = (0 : EReal) := by
    show Scalar.select 1#1 (Ideal.ofBits .f32 (stBits k.val)) _ = _
    unfold stBits
    rw [if_neg hk, Ideal.ofBits_zero_f32]; rfl
  have i (k : Fin 7) (hk : k.val < 2) : selSt (F := Ideal) 1#1 st (ix3 k R l) = (⊥ : EReal) := by
    show Scalar.select 1#1 (Ideal.ofBits .f32 (stBits k.val)) _ = _
    unfold stBits
    rw [if_pos hk, ofBits_ninf]; rfl
  refine ⟨?_, ?_, ?_, ?_, ?_, ?_, ?_⟩
  · rw [i 0 (by decide)]; simp [mx]
  · rw [i 1 (by decide)]; simp [mx]
  · rw [z 2 (by decide)]; simp [es]
  · rw [z 3 (by decide)]; simp [es]
  · rw [z 4 (by decide)]; simp [ws]
  · rw [z 5 (by decide)]; simp
  · rw [z 6 (by decide)]; simp

theorem kept_covers (st : Vec Ideal S7x1024x128 .f32) : selSt (F := Ideal) 0#1 st = st := rfl

/-- Statistics that cover a whole row give the row's closing values. -/
theorem fin_covers (st : Vec Ideal S7x1024x128 .f32) (rec : Vec Ideal S1024x128 .f32) (R : Fin 1024) (p q : ℕ → EReal) (tg adv : EReal)
    (ha : rec (ix2 R (2 : Fin 128)) = adv) (h : ∀ l : Fin 128, Covers st R l p q tg 384) (l : Fin 128) :
    finTile (F := Ideal) st rec (ix2 R l) = rowOut p q tg adv l := by
  have hR : R.val / 32 < 32 := by have := R.isLt; omega
  have hsl (j : Fin 7) (l : Fin 128) : slab st j (R.val / 32) hR (ix3 (0 : Fin 1) (⟨R.val % 32, Nat.mod_lt _ (by decide)⟩ : Fin 32) l) = st (ix3 j R l) := by
    unfold slab
    refine congrArg (fun R' => st (ix3 j R' l)) (Fin.ext ?_)
    show 32 * (R.val / 32) + R.val % 32 = R.val
    omega
  have hav : advs rec (R.val / 32) hR (ix2 (⟨R.val % 32, Nat.mod_lt _ (by decide)⟩ : Fin 32) (0 : Fin 1)) = adv := by
    rw [← ha]
    unfold advs
    refine congrArg (fun R' => rec (ix2 R' (2 : Fin 128))) (Fin.ext ?_)
    show 32 * (R.val / 32) + R.val % 32 = R.val
    omega
  have hN : 128 * 384 = 49152 := by norm_num
  have mp := lanes_mx p 384
  have mq := lanes_mx q 384
  have ep := lanes_es p 384
  have eq := lanes_es q 384
  have wp := lanes_ws p (fun v => p v - q v) 384
  have sp := lanes_sum (hit tg p) 384
  have sq := lanes_sum (hit tg q) 384
  rw [hN] at mp mq ep eq wp sp sq
  rw [show finTile (F := Ideal) st rec (ix2 R l) = finBlk st rec (R.val / 32) hR (ix2 (⟨R.val % 32, Nat.mod_lt _ (by decide)⟩ : Fin 32) l) from rfl]
  unfold finBlk
  refine (close_at _ _ _ _ _ _ _ _ (fun l => ∑ i ∈ Finset.range 384, lane (hit tg p) l i) (fun l => ∑ i ∈ Finset.range 384, lane (hit tg q) l i)
    (fun l => (hsl 5 l).trans (h l).c5) (fun l => (hsl 6 l).trans (h l).c6) l).trans ?_
  rw [pay9_at _ _ _ (fun l => mx (lane p l) 384) (fun l => es (lane p l) (mx (lane p l) 384) 384) (fun l => (hsl 0 l).trans (h l).c0) (fun l => (hsl 2 l).trans (h l).c2),
    pay10_at _ _ _ (fun l => mx (lane q l) 384) (fun l => es (lane q l) (mx (lane q l) 384) 384) (fun l => (hsl 1 l).trans (h l).c1) (fun l => (hsl 3 l).trans (h l).c3),
    pay8_at _ _ _ (fun l => mx (lane p l) 384) (fun l => es (lane p l) (mx (lane p l) 384) 384) (fun l => (hsl 0 l).trans (h l).c0) (fun l => (hsl 2 l).trans (h l).c2),
    pay11_at _ _ _ (fun l => mx (lane p l) 384) (fun l => ws (lane p l) (lane (fun v => p v - q v) l) (mx (lane p l) 384) 384) (fun l => (hsl 0 l).trans (h l).c0)
      (fun l => (hsl 4 l).trans (h l).c4), hav, mp, mq]
  rw [ep, eq, wp, sp, sq]
  unfold rowOut lse mean score
  rfl

end Cert.FwdIdeal.Hand

end
-- ==== Proof.FwdBlocks.lean ====
/- The blocks the forward call stages at each point, read off the arguments, and the raw scores a point makes of them. -/
module

public import proofs.«01_k».proof.Proof.FwdInv
public import proofs.«01_k».proof.Proof.FwdFin
public import proofs.«01_k».proof.Proof.FwdSpec
public import proofs.«01_k».proof.Proof.Gen.FwdIdeal.Frame.Runs

@[expose] public section

set_option maxRecDepth 16384

noncomputable section

namespace Cert.FwdIdeal.Hand

open Idealize.ShloMosaic Idealize.ShloMosaic.TcCoe
open Idealize.SL Idealize.SL.Sem
open Cert.FwdIdeal Cert.FwdIdeal.Gen Cert.FwdMath

variable (m : (ℓ : Loc nD τ sig) → Buf (Elt Ideal) ℓ)

/-! ## Which block each window holds -/

theorem index0_0 : ∀ t : Fin cfg0.N, win0_0.index t 0 = min (t.val / 48) 17 ∧ win0_0.index t 1 = 0 :=
  (by decide +kernel : ∀ t : Fin grid0.N, win0_0.index t 0 = min (t.val / 48) 17 ∧ win0_0.index t 1 = 0)
theorem index0_1 : ∀ t : Fin cfg0.N, win0_1.index t 0 = min (t.val / 48) 17 ∧ win0_1.index t 1 = 0 :=
  (by decide +kernel : ∀ t : Fin grid0.N, win0_1.index t 0 = min (t.val / 48) 17 ∧ win0_1.index t 1 = 0)
theorem index0_2 : ∀ t : Fin cfg0.N, win0_2.index t 0 = min (t.val / 48) 17 ∧ win0_2.index t 1 = 0 :=
  (by decide +kernel : ∀ t : Fin grid0.N, win0_2.index t 0 = min (t.val / 48) 17 ∧ win0_2.index t 1 = 0)
theorem index0_3 : ∀ t : Fin cfg0.N, win0_3.index t 0 = t.val % 48 ∧ win0_3.index t 1 = 0 :=
  (by decide +kernel : ∀ t : Fin grid0.N, win0_3.index t 0 = t.val % 48 ∧ win0_3.index t 1 = 0)
theorem index0_4 : ∀ t : Fin cfg0.N, win0_4.index t 0 = t.val % 48 ∧ win0_4.index t 1 = 0 :=
  (by decide +kernel : ∀ t : Fin grid0.N, win0_4.index t 0 = t.val % 48 ∧ win0_4.index t 1 = 0)
theorem index0_5 : ∀ t : Fin cfg0.N, win0_5.index t 0 = 2 * (t.val % 48) ∧ win0_5.index t 1 = 0 ∧ win0_5.index t 2 = 0 :=
  (by decide +kernel : ∀ t : Fin grid0.N, win0_5.index t 0 = 2 * (t.val % 48) ∧ win0_5.index t 1 = 0 ∧ win0_5.index t 2 = 0)
theorem index0_6 : ∀ t : Fin cfg0.N, win0_6.index t 0 = 2 * ((t.val + 47) % 48) + 1 ∧ win0_6.index t 1 = 0 ∧ win0_6.index t 2 = 0 :=
  (by decide +kernel : ∀ t : Fin grid0.N, win0_6.index t 0 = 2 * ((t.val + 47) % 48) + 1 ∧ win0_6.index t 1 = 0 ∧ win0_6.index t 2 = 0)

theorem index0_8 : ∀ t : Fin cfg0.N, win0_8.index t 0 = (t.val - 1) / 48 ∧ win0_8.index t 1 = 0 :=
  (by decide +kernel : ∀ t : Fin grid0.N, win0_8.index t 0 = (t.val - 1) / 48 ∧ win0_8.index t 1 = 0)

theorem xsize0_8 : ∀ t : Fin cfg0.N, win0_8.xsize (grid0.coords t) 0 = 1024 ∧ win0_8.xsize (grid0.coords t) 1 = 128 :=
  (by decide +kernel : ∀ t : Fin grid0.N, win0_8.xsize (grid0.coords t) 0 = 1024 ∧ win0_8.xsize (grid0.coords t) 1 = 128)

theorem hN : cfg0.N = 865 := (by decide +kernel : grid0.N = 865)

/-- The arguments by name. -/
abbrev codesArg (c : Dev nD) : FVec Ideal S18432x2048 .fp8e4m3 := m (c.tc.loc main_arg0)
abbrev xArg (c : Dev nD) : FVec Ideal S18432x2048 .bf16 := m (c.tc.loc main_arg1)
abbrev recArg (c : Dev nD) : FVec Ideal S18432x128 .f32 := m (c.tc.loc main_arg2)
abbrev wArg (c : Dev nD) : FVec Ideal S49152x2048 .fp8e4m3 := m (c.tc.loc main_arg3)
abbrev wrArg (c : Dev nD) : FVec Ideal S49152x2048 .bf16 := m (c.tc.loc main_arg4)
abbrev sArg (c : Dev nD) : FVec Ideal S96x1x512 .f32 := m (c.tc.loc main_arg5)

theorem iblk_codes (c : Dev nD) (t : Fin cfg0.N) (h : t.val < 864) (r : Fin 1024) (k : Fin 2048) :
    iblk m c 0 t (ix2 r k) = codesArg m c (ix2 (Fin.ofNat 18432 (t.val / 48 * 1024 + r.val)) k) := by
  unfold iblk
  rw [View.read_apply]
  show V m c main_arg0 _ = m (c.tc.loc main_arg0) _
  unfold V
  congr 1
  obtain ⟨h0, h1⟩ := index0_0 t
  have hr := r.isLt
  funext b
  apply Fin.ext
  match b with
  | ⟨0, _⟩ => show win0_0.index t 0 * 1024 + 1 * r.val = (t.val / 48 * 1024 + r.val) % 18432; rw [h0]; omega
  | ⟨1, _⟩ => show win0_0.index t 1 * 2048 + 1 * k.val = k.val; rw [h1]; omega

theorem iblk_x (c : Dev nD) (t : Fin cfg0.N) (h : t.val < 864) (r : Fin 1024) (k : Fin 2048) :
    iblk m c 1 t (ix2 r k) = xArg m c (ix2 (Fin.ofNat 18432 (t.val / 48 * 1024 + r.val)) k) := by
  unfold iblk
  rw [View.read_apply]
  show V m c main_arg1 _ = m (c.tc.loc main_arg1) _
  unfold V
  congr 1
  obtain ⟨h0, h1⟩ := index0_1 t
  have hr := r.isLt
  funext b
  apply Fin.ext
  match b with
  | ⟨0, _⟩ => show win0_1.index t 0 * 1024 + 1 * r.val = (t.val / 48 * 1024 + r.val) % 18432; rw [h0]; omega
  | ⟨1, _⟩ => show win0_1.index t 1 * 2048 + 1 * k.val = k.val; rw [h1]; omega

theorem iblk_rec (c : Dev nD) (t : Fin cfg0.N) (h : t.val < 864) (r : Fin 1024) (l : Fin 128) :
    iblk m c 2 t (ix2 r l) = recArg m c (ix2 (Fin.ofNat 18432 (t.val / 48 * 1024 + r.val)) l) := by
  unfold iblk
  rw [View.read_apply]
  show V m c main_arg2 _ = m (c.tc.loc main_arg2) _
  unfold V
  congr 1
  obtain ⟨h0, h1⟩ := index0_2 t
  have hr := r.isLt
  funext b
  apply Fin.ext
  match b with
  | ⟨0, _⟩ => show win0_2.index t 0 * 1024 + 1 * r.val = (t.val / 48 * 1024 + r.val) % 18432; rw [h0]; omega
  | ⟨1, _⟩ => show win0_2.index t 1 * 128 + 1 * l.val = l.val; rw [h1]; omega

theorem iblk_w (c : Dev nD) (t : Fin cfg0.N) (r : Fin 1024) (k : Fin 2048) :
    iblk m c 3 t (ix2 r k) = wArg m c (ix2 (Fin.ofNat 49152 (t.val % 48 * 1024 + r.val)) k) := by
  unfold iblk
  rw [View.read_apply]
  show V m c main_arg3 _ = m (c.tc.loc main_arg3) _
  unfold V
  congr 1
  obtain ⟨h0, h1⟩ := index0_3 t
  have hr := r.isLt
  funext b
  apply Fin.ext
  match b with
  | ⟨0, _⟩ => show win0_3.index t 0 * 1024 + 1 * r.val = (t.val % 48 * 1024 + r.val) % 49152; rw [h0]; omega
  | ⟨1, _⟩ => show win0_3.index t 1 * 2048 + 1 * k.val = k.val; rw [h1]; omega

theorem iblk_wr (c : Dev nD) (t : Fin cfg0.N) (r : Fin 1024) (k : Fin 2048) :
    iblk m c 4 t (ix2 r k) = wrArg m c (ix2 (Fin.ofNat 49152 (t.val % 48 * 1024 + r.val)) k) := by
  unfold iblk
  rw [View.read_apply]
  show V m c main_arg4 _ = m (c.tc.loc main_arg4) _
  unfold V
  congr 1
  obtain ⟨h0, h1⟩ := index0_4 t
  have hr := r.isLt
  funext b
  apply Fin.ext
  match b with
  | ⟨0, _⟩ => show win0_4.index t 0 * 1024 + 1 * r.val = (t.val % 48 * 1024 + r.val) % 49152; rw [h0]; omega
  | ⟨1, _⟩ => show win0_4.index t 1 * 2048 + 1 * k.val = k.val; rw [h1]; omega

theorem iblk_sa (c : Dev nD) (t : Fin cfg0.N) (q : Fin 512) :
    iblk m c 5 t (ix3 (0 : Fin 1) (0 : Fin 1) q) = sArg m c (ix3 (Fin.ofNat 96 (2 * (t.val % 48))) (0 : Fin 1) q) := by
  unfold iblk
  rw [View.read_apply]
  show V m c main_arg5 _ = m (c.tc.loc main_arg5) _
  unfold V
  congr 1
  obtain ⟨h0, h1, h2⟩ := index0_5 t
  funext b
  apply Fin.ext
  match b with
  | ⟨0, _⟩ => show win0_5.index t 0 * 1 + 1 * 0 = (2 * (t.val % 48)) % 96; rw [h0]; omega
  | ⟨1, _⟩ => show win0_5.index t 1 * 1 + 1 * 0 = 0; rw [h1]
  | ⟨2, _⟩ => show win0_5.index t 2 * 512 + 1 * q.val = q.val; rw [h2]; omega

theorem iblk_sb (c : Dev nD) (t : Fin cfg0.N) (q : Fin 512) :
    iblk m c 6 t (ix3 (0 : Fin 1) (0 : Fin 1) q) = sArg m c (ix3 (Fin.ofNat 96 (2 * ((t.val + 47) % 48) + 1)) (0 : Fin 1) q) := by
  unfold iblk
  rw [View.read_apply]
  show V m c main_arg5 _ = m (c.tc.loc main_arg5) _
  unfold V
  congr 1
  obtain ⟨h0, h1, h2⟩ := index0_6 t
  funext b
  apply Fin.ext
  match b with
  | ⟨0, _⟩ => show win0_6.index t 0 * 1 + 1 * 0 = (2 * ((t.val + 47) % 48) + 1) % 96; rw [h0]; omega
  | ⟨1, _⟩ => show win0_6.index t 1 * 1 + 1 * 0 = 0; rw [h1]
  | ⟨2, _⟩ => show win0_6.index t 2 * 512 + 1 * q.val = q.val; rw [h2]; omega

/-! ## The numbers of a half tile's first column -/

theorem pay20_bits : ∀ t : Fin cfg0.N, (Scalar.muli (Scalar.remsi (BitVec.ofNat 32 ((grid0.coords t) 0).val) 48#32) 1024#32).toInt = ((512 * (2 * (t.val % 48)) : ℕ) : ℤ) :=
  (by decide +kernel : ∀ t : Fin grid0.N, (Scalar.muli (Scalar.remsi (BitVec.ofNat 32 ((grid0.coords t) 0).val) 48#32) 1024#32).toInt = ((512 * (2 * (t.val % 48)) : ℕ) : ℤ))

theorem pay21_bits : ∀ t : Fin cfg0.N, (Scalar.addi (Scalar.muli (Scalar.remsi (Scalar.subi (Scalar.addi (Scalar.remsi (BitVec.ofNat 32 ((grid0.coords t) 0).val) 48#32) 48#32) 1#32) 48#32) 1024#32) 512#32).toInt
    = ((512 * (2 * ((t.val + 47) % 48) + 1) : ℕ) : ℤ) :=
  (by decide +kernel : ∀ t : Fin grid0.N, (Scalar.addi (Scalar.muli (Scalar.remsi (Scalar.subi (Scalar.addi (Scalar.remsi (BitVec.ofNat 32 ((grid0.coords t) 0).val) 48#32) 48#32) 1#32) 48#32) 1024#32) 512#32).toInt
    = ((512 * (2 * ((t.val + 47) % 48) + 1) : ℕ) : ℤ))

theorem pay20_ideal (t : Fin cfg0.N) : k0_pay20 (F := Ideal) (grid0.coords t) = (((512 * (2 * (t.val % 48)) : ℕ) : ℝ) : EReal) := by
  show (((Scalar.muli (Scalar.remsi (BitVec.ofNat 32 ((grid0.coords t) 0).val) 48#32) 1024#32).toInt : ℝ) : EReal) = _
  rw [pay20_bits]; rw [Int.cast_natCast]

theorem pay21_ideal (t : Fin cfg0.N) : k0_pay21 (F := Ideal) (grid0.coords t) = (((512 * (2 * ((t.val + 47) % 48) + 1) : ℕ) : ℝ) : EReal) := by
  show (((Scalar.addi (Scalar.muli (Scalar.remsi (Scalar.subi (Scalar.addi (Scalar.remsi (BitVec.ofNat 32 ((grid0.coords t) 0).val) 48#32) 48#32) 1#32) 48#32) 1024#32) 512#32).toInt : ℝ) : EReal) = _
  rw [pay21_bits]; rw [Int.cast_natCast]

theorem firstBit_eq : ∀ t : Fin cfg0.N, firstBit (grid0.coords t) = if t.val % 48 = 0 then 1#1 else 0#1 :=
  (by decide +kernel : ∀ t : Fin grid0.N, firstBit (grid0.coords t) = if t.val % 48 = 0 then 1#1 else 0#1)

/-! ## The raw scores -/

theorem pay22_at (x : Vec Ideal S1024x2048 .fp8e4m3) (w : Vec Ideal S512x2048 .fp8e4m3) (R : Fin 1024) (c : Fin 512) :
    k0_pay22 (F := Ideal) x w (ix2 R c) = (∑ k : Fin 2048, x (ix2 R k) * w (ix2 c k) : EReal) := by
  pointwise [k0_pay22]

theorem pay23_at (x : Vec Ideal S1024x2048 .bf16) (w : Vec Ideal S512x2048 .bf16) (R : Fin 1024) (c : Fin 512) :
    k0_pay23 (F := Ideal) x w (ix2 R c) = (∑ k : Fin 2048, x (ix2 R k) * w (ix2 c k) : EReal) := by
  pointwise [k0_pay23]

theorem pay4_at (x : Vec Ideal S1024x128 .f32) (R : Fin 1024) (l : Fin 128) : k0_pay4 (F := Ideal) x (ix2 R l) = x (ix2 R l) := by
  pointwise [k0_pay4]

theorem rowsA {e : EltTy} (w : Vec Ideal S1024x2048 e) (c : Fin 512) (k : Fin 2048) :
    View.ld w (Rect.unit (s := S1024x2048) ![0, 0] S512x2048.size inb_S1024x2048_S512x2048_0_0) (ix2 c k) = w (ix2 (⟨c.val, by omega⟩ : Fin 1024) k) := by
  refine congrArg w (funext fun a => Fin.ext ?_)
  match a with
  | ⟨0, _⟩ => show 0 + 1 * c.val = c.val; omega
  | ⟨1, _⟩ => show 0 + 1 * k.val = k.val; omega

theorem rowsB {e : EltTy} (w : Vec Ideal S1024x2048 e) (c : Fin 512) (k : Fin 2048) :
    View.ld w (Rect.unit (s := S1024x2048) ![512, 0] S512x2048.size inb_S1024x2048_S512x2048_512_0) (ix2 c k) = w (ix2 (⟨512 + c.val, by omega⟩ : Fin 1024) k) := by
  refine congrArg w (funext fun a => Fin.ext ?_)
  match a with
  | ⟨0, _⟩ => show 512 + 1 * c.val = 512 + c.val; omega
  | ⟨1, _⟩ => show 0 + 1 * k.val = k.val; omega

/-- The product of the codes of row `R` and word `v`. -/
def zraw (codes : FVec Ideal S18432x2048 .fp8e4m3) (w : FVec Ideal S49152x2048 .fp8e4m3) (R v : ℕ) : EReal :=
  ∑ k : Fin 2048, codes (ix2 (Fin.ofNat 18432 R) k) * w (ix2 (Fin.ofNat 49152 v) k)

theorem prodA_at (c : Dev nD) (t : Fin cfg0.N) (h : t.val < 864) (R : Fin 1024) (q : Fin 512) :
    prodA (iblk m c 3 t) (iblk m c 0 t) (ix2 R q) = zraw (codesArg m c) (wArg m c) (t.val / 48 * 1024 + R.val) (512 * (2 * (t.val % 48)) + q.val) := by
  unfold prodA zraw
  rw [pay22_at]
  refine Finset.sum_congr rfl fun k _ => ?_
  rw [rowsA, iblk_codes m c t h, iblk_w]
  rw [show t.val % 48 * 1024 + q.val = 512 * (2 * (t.val % 48)) + q.val by omega]

theorem prodB_at (c : Dev nD) (t : Fin cfg0.N) (h : t.val < 864) (R : Fin 1024) (q : Fin 512) :
    prodB (iblk m c 3 t) (iblk m c 0 t) (ix2 R q) = zraw (codesArg m c) (wArg m c) (t.val / 48 * 1024 + R.val) (512 * (2 * (t.val % 48) + 1) + q.val) := by
  unfold prodB zraw
  rw [pay22_at]
  refine Finset.sum_congr rfl fun k _ => ?_
  rw [rowsB, iblk_codes m c t h, iblk_w]
  rw [show t.val % 48 * 1024 + (512 + q.val) = 512 * (2 * (t.val % 48) + 1) + q.val by omega]

theorem qrodA_at (c : Dev nD) (t : Fin cfg0.N) (h : t.val < 864) (R : Fin 1024) (q : Fin 512) :
    qrodA (iblk m c 4 t) (iblk m c 1 t) (ix2 R q) = zq (xArg m c) (wrArg m c) (t.val / 48 * 1024 + R.val) (512 * (2 * (t.val % 48)) + q.val) := by
  unfold qrodA zq
  rw [pay23_at]
  refine Finset.sum_congr rfl fun k _ => ?_
  rw [rowsA, iblk_x m c t h, iblk_wr]
  rw [show t.val % 48 * 1024 + q.val = 512 * (2 * (t.val % 48)) + q.val by omega]

theorem qrodB_at (c : Dev nD) (t : Fin cfg0.N) (h : t.val < 864) (R : Fin 1024) (q : Fin 512) :
    qrodB (iblk m c 4 t) (iblk m c 1 t) (ix2 R q) = zq (xArg m c) (wrArg m c) (t.val / 48 * 1024 + R.val) (512 * (2 * (t.val % 48) + 1) + q.val) := by
  unfold qrodB zq
  rw [pay23_at]
  refine Finset.sum_congr rfl fun k _ => ?_
  rw [rowsB, iblk_x m c t h, iblk_wr]
  rw [show t.val % 48 * 1024 + (512 + q.val) = 512 * (2 * (t.val % 48) + 1) + q.val by omega]

/-- A scaled score is the formula's, when the raw product, the row's scale and the block's scales are the arguments'. -/
theorem zpAt_eq (codes : FVec Ideal S18432x2048 .fp8e4m3) (rec : FVec Ideal S18432x128 .f32) (w : FVec Ideal S49152x2048 .fp8e4m3) (s : FVec Ideal S96x1x512 .f32)
    (accp : Vec Ideal S1024x512 .f32) (wps : Vec Ideal S1x1x512 .f32) (rb : Vec Ideal S1024x128 .f32) (R : Fin 1024) (q : Fin 512) (N B : ℕ)
    (ha : accp (ix2 R q) = zraw codes w N (512 * B + q.val)) (hs : wps (ix3 (0 : Fin 1) (0 : Fin 1) q) = s (ix3 (Fin.ofNat 96 B) (0 : Fin 1) q))
    (hr : rb (ix2 R (0 : Fin 128)) = rec (ix2 (Fin.ofNat 18432 N) (0 : Fin 128))) :
    zpAt (F := Ideal) accp wps rb R q = zp codes rec w s N (512 * B + q.val) := by
  have hq := q.isLt
  have e1 : (512 * B + q.val) / 512 = B := by omega
  have e2 : Fin.ofNat 512 (512 * B + q.val) = q := Fin.ext (by show (512 * B + q.val) % 512 = q.val; omega)
  unfold zp
  rw [e1, e2, ← hs, ← hr]
  show (accp (ix2 R q) * (rb (ix2 R (0 : Fin 128)) * wps (ix3 (0 : Fin 1) (0 : Fin 1) q)) : EReal) = _
  rw [ha]; rfl

end Cert.FwdIdeal.Hand

end
-- ==== Proof.FwdSum.lean ====
/- The statistics of the forward call over the extended reals: after each point they cover the words seen so far, and a row's closing values are the formula's. -/
module

public import proofs.«01_k».proof.Proof.FwdBlocks
public import proofs.«01_k».proof.Proof.FwdState

@[expose] public section

set_option maxRecDepth 16384

noncomputable section

namespace Cert.FwdIdeal.Hand

open Idealize.ShloMosaic Idealize.ShloMosaic.TcCoe
open Idealize.SL Idealize.SL.Sem
open Cert.FwdIdeal Cert.FwdIdeal.Gen Cert.FwdMath

variable (m : (ℓ : Loc nD τ sig) → Buf (Elt Ideal) ℓ)

/-- Row `N`'s scores, its reference scores and its target. -/
abbrev rowP (c : Dev nD) (N : ℕ) : ℕ → EReal := zp (codesArg m c) (recArg m c) (wArg m c) (sArg m c) N
abbrev rowQ (c : Dev nD) (N : ℕ) : ℕ → EReal := zq (xArg m c) (wrArg m c) N
abbrev rowT (c : Dev nD) (N : ℕ) : EReal := recArg m c (ix2 (Fin.ofNat 18432 N) (1 : Fin 128))

/-- What point `48 T + k` leaves: the products of its second half tile, the statistics up to its first, and the records of the tile's rows. -/
structure Holds (c : Dev nD) (T k : ℕ) (p : St Ideal) : Prop where
  a : ∀ (R : Fin 1024) (q : Fin 512), p.1 (ix2 R q) = zraw (codesArg m c) (wArg m c) (T * 1024 + R.val) (512 * (2 * k + 1) + q.val)
  b : ∀ (R : Fin 1024) (q : Fin 512), p.2.1 (ix2 R q) = rowQ m c (T * 1024 + R.val) (512 * (2 * k + 1) + q.val)
  s : ∀ (R : Fin 1024) (l : Fin 128), Covers p.2.2.1 R l (rowP m c (T * 1024 + R.val)) (rowQ m c (T * 1024 + R.val)) (rowT m c (T * 1024 + R.val)) (4 * (2 * k + 1))
  r : ∀ (R : Fin 1024) (l : Fin 128), p.2.2.2 (ix2 R l) = recArg m c (ix2 (Fin.ofNat 18432 (T * 1024 + R.val)) l)

/-- The next point folds the second half tile into the statistics. -/
theorem mid_covers (c : Dev nD) (T k : ℕ) (p : St Ideal) (h : Holds m c T k p) (t : Fin cfg0.N) (ht : (t.val + 47) % 48 = k) (R : Fin 1024) (l : Fin 128) :
    Covers (midS m c t p) R l (rowP m c (T * 1024 + R.val)) (rowQ m c (T * 1024 + R.val)) (rowT m c (T * 1024 + R.val)) (4 * (2 * k + 1 + 1)) := by
  have hB := pay21_ideal t
  rw [ht] at hB
  unfold midS
  refine epi_covers _ p.1 p.2.1 (iblk m c 6 t) p.2.2.2 p.2.2.1 R l _ _ _ (2 * k + 1) hB (fun q => ?_) (fun q => h.b R q) (h.r R 1) (h.s R l)
  refine zpAt_eq (codesArg m c) (recArg m c) (wArg m c) (sArg m c) _ _ _ R q (T * 1024 + R.val) (2 * k + 1) (h.a R q) ?_ (h.r R 0)
  rw [iblk_sb, ht]

/-- A point folds its first half tile into the statistics. -/
theorem end_covers (c : Dev nD) (T k : ℕ) (p : St Ideal) (t : Fin cfg0.N) (h : t.val < 864) (hT : t.val / 48 = T) (hk : t.val % 48 = k) (R : Fin 1024) (l : Fin 128)
    (hs : Covers (selSt (firstBit (grid0.coords t)) (midS m c t p)) R l (rowP m c (T * 1024 + R.val)) (rowQ m c (T * 1024 + R.val)) (rowT m c (T * 1024 + R.val)) (4 * (2 * k))) :
    Covers (endS m c t p) R l (rowP m c (T * 1024 + R.val)) (rowQ m c (T * 1024 + R.val)) (rowT m c (T * 1024 + R.val)) (4 * (2 * k + 1)) := by
  subst hT hk
  unfold endS
  refine epi_covers _ (prodA (iblk m c 3 t) (iblk m c 0 t)) (qrodA (iblk m c 4 t) (iblk m c 1 t)) (iblk m c 5 t) (iblk m c 2 t) _ R l _ _ _ (2 * (t.val % 48)) (pay20_ideal t)
    (fun q => ?_) (fun q => qrodA_at m c t h R q) (iblk_rec m c t h R 1) hs
  exact zpAt_eq (codesArg m c) (recArg m c) (wArg m c) (sArg m c) _ _ _ R q (t.val / 48 * 1024 + R.val) (2 * (t.val % 48)) (prodA_at m c t h R q) (iblk_sa m c t q) (iblk_rec m c t h R 0)

theorem holds_nxt (c : Dev nD) (T k : ℕ) (p : St Ideal) (t : Fin cfg0.N) (h : t.val < 864) (hT : t.val / 48 = T) (hk : t.val % 48 = k)
    (hs : ∀ (R : Fin 1024) (l : Fin 128), Covers (selSt (firstBit (grid0.coords t)) (midS m c t p)) R l (rowP m c (T * 1024 + R.val)) (rowQ m c (T * 1024 + R.val)) (rowT m c (T * 1024 + R.val)) (4 * (2 * k)))
    (hr : ∀ (R : Fin 1024) (l : Fin 128), (nxt m c t p).2.2.2 (ix2 R l) = recArg m c (ix2 (Fin.ofNat 18432 (T * 1024 + R.val)) l)) :
    Holds m c T k (nxt m c t p) where
  a R q := by subst hT hk; exact prodB_at m c t h R q
  b R q := by subst hT hk; exact qrodB_at m c t h R q
  s R l := end_covers m c T k p t h hT hk R l (hs R l)
  r := hr

/-- What every point of a row tile leaves. -/
theorem holds_at (c : Dev nD) (T : ℕ) (hT : T < 18) : ∀ (k : ℕ) (hk : k < 48) (h : 48 * T + k + 1 ≤ cfg0.N), Holds m c T k (stAt m c (48 * T + k + 1) h)
  | 0, hk, h => by
    have h48 : (48 * T + 0) % 48 = 0 := by omega
    rw [stAt_succ m c (48 * T + 0) h]
    refine holds_nxt m c T 0 _ ⟨48 * T + 0, h⟩ (by show 48 * T + 0 < 864; omega) (by show (48 * T + 0) / 48 = T; omega) h48 (fun R l => ?_) (fun R l => ?_)
    · rw [firstBit_eq, if_pos h48]
      exact fresh_covers _ R l _ _ _
    · rw [nxt_first m c ⟨48 * T + 0, h⟩ _ h48]
      show k0_pay4 (F := Ideal) (iblk m c 2 ⟨48 * T + 0, h⟩) (ix2 R l) = _
      rw [pay4_at, iblk_rec m c ⟨48 * T + 0, h⟩ (by show 48 * T + 0 < 864; omega)]
      rw [show (48 * T + 0) / 48 = T by omega]
  | k + 1, hk, h => by
    have ih := holds_at c T hT k (by omega) (by omega)
    have h48 : ¬(48 * T + (k + 1)) % 48 = 0 := by omega
    rw [stAt_succ m c (48 * T + (k + 1)) h]
    refine holds_nxt m c T (k + 1) _ ⟨48 * T + (k + 1), h⟩ (by show 48 * T + (k + 1) < 864; omega) (by show (48 * T + (k + 1)) / 48 = T; omega)
      (by show (48 * T + (k + 1)) % 48 = k + 1; omega) (fun R l => ?_) (fun R l => ?_)
    · rw [firstBit_eq, if_neg h48, kept_covers]
      exact mid_covers m c T k _ ih ⟨48 * T + (k + 1), h⟩ (by show (48 * T + (k + 1) + 47) % 48 = k; omega) R l
    · rw [nxt_other m c ⟨48 * T + (k + 1), h⟩ _ h48]
      exact ih.r R l

/-- The closing values a row tile's last point writes are the formula's. -/
theorem finAt_entry (c : Dev nD) (t : Fin cfg0.N) (h0 : t.val ≠ 0) (h : t.val % 48 = 0) (R : Fin 1024) (l : Fin 128) :
    finAt m c t (ix2 R l) = rowOut (rowP m c ((t.val - 1) / 48 * 1024 + R.val)) (rowQ m c ((t.val - 1) / 48 * 1024 + R.val)) (rowT m c ((t.val - 1) / 48 * 1024 + R.val))
      (recArg m c (ix2 (Fin.ofNat 18432 ((t.val - 1) / 48 * 1024 + R.val)) (2 : Fin 128))) l := by
  have ht := t.isLt
  have hN := hN
  have hv : 48 * ((t.val - 1) / 48) + 47 + 1 = t.val := by omega
  have hh := holds_at m c ((t.val - 1) / 48) (by omega) 47 (by decide) (by omega)
  simp only [hv] at hh
  unfold finAt
  exact fin_covers _ _ R _ _ _ _ (hh.r R 2) (fun l => mid_covers m c _ 47 _ hh t (by omega) R l) l

end Cert.FwdIdeal.Hand

end
-- ==== Proof.FwdOut.lean ====
/- The blocks of closing values the forward call writes back are the formula's, and they fill the result. -/
module

public import proofs.«01_k».proof.Proof.FwdSum

@[expose] public section

set_option maxRecDepth 16384

noncomputable section

namespace Cert.FwdIdeal.Hand

open Idealize.ShloMosaic Idealize.ShloMosaic.TcCoe
open Idealize.SL Idealize.SL.Sem
open Cert.FwdIdeal Cert.FwdIdeal.Gen Cert.FwdMath

variable (m : (ℓ : Loc nD τ sig) → Buf (Elt Ideal) ℓ)

/-- The result, as one array of the arguments. -/
abbrev outArr (c : Dev nD) : FVec Ideal S18432x128 .f32 := fwdOut (codesArg m c) (xArg m c) (recArg m c) (wArg m c) (wrArg m c) (sArg m c)

/-- The closing values of row `N`, at lane `l`. -/
def rowFin (c : Dev nD) (N : ℕ) (l : Fin 128) : EReal :=
  rowOut (rowP m c N) (rowQ m c N) (rowT m c N) (recArg m c (ix2 (Fin.ofNat 18432 N) (2 : Fin 128))) l

theorem fin_block (c : Dev nD) (t : Fin cfg0.N) (h1 : t.val % 48 = 0) (h0 : t.val ≠ 0) :
    (cfg0.win 8).cut (grid0.coords t) (finAt m c t) = ((cfg0.win 8).blk t).view.read (Elt Ideal) (outArr m c) := by
  obtain ⟨i0, i1⟩ := index0_8 t
  have e (j : S1024x128.Idx) : finAt m c t (ix2 (j 0) (j 1)) = rowFin m c ((t.val - 1) / 48 * 1024 + (j 0).val) (j 1) := finAt_entry m c t h0 h1 (j 0) (j 1)
  generalize finAt m c t = X at e
  have hout : ∀ i : S18432x128.Idx, outArr m c i = rowFin m c (i 0).val (i 1) := fun _ => rfl
  generalize outArr m c = G at hout
  generalize rowFin m c = g at e hout
  funext j
  rw [View.read_apply]
  have hj : X (ix2 (j 0) (j 1)) = X j := congrArg X (by
    funext a; match a with
    | ⟨0, _⟩ => rfl
    | ⟨1, _⟩ => rfl)
  have hl : (cfg0.win 8).cut (grid0.coords t) X j = X j := rfl
  refine hl.trans (hj.symm.trans ((e j).trans ?_))
  refine Eq.trans ?_ (hout _).symm
  have a0 : ((((cfg0.win 8).blk t).view.emb j) 0).val = (t.val - 1) / 48 * 1024 + (j 0).val := by
    show win0_8.index t 0 * 1024 + 1 * (j 0).val = _
    rw [i0]; omega
  have a1 : (((cfg0.win 8).blk t).view.emb j) 1 = j 1 := Fin.ext (by
    show win0_8.index t 1 * 128 + 1 * (j 1).val = (j 1).val
    rw [i1]; omega)
  rw [a1]
  exact congrArg (fun n => g n (j 1)) a0.symm

theorem fin_cover (i : S18432x128.Idx) : ∃ t : Fin cfg0.N, (t.val % 48 = 0 ∧ t.val ≠ 0) ∧ i ∈ ((cfg0.win 8).blk t).view.set := by
  have h0 : (i 0 : Nat) < 18432 := (i 0).isLt
  have h1 : (i 1 : Nat) < 128 := (i 1).isLt
  have hN := hN
  obtain ⟨t, ht⟩ : ∃ t : Fin cfg0.N, t.val = 48 * ((i 0 : Nat) / 1024) + 48 := ⟨⟨48 * ((i 0 : Nat) / 1024) + 48, by omega⟩, rfl⟩
  refine ⟨t, by omega, ?_⟩
  show i ∈ ((View.whole main_v0_1).slice (win0_8.rect t)).set
  rw [View.set_slice_whole, Rect.mem_set_unit]
  obtain ⟨i0, i1⟩ := index0_8 t
  obtain ⟨x0, x1⟩ := xsize0_8 t
  intro a
  match a with
  | ⟨0, _⟩ => show win0_8.index t 0 * 1024 ≤ (i 0 : Nat) ∧ (i 0 : Nat) < win0_8.index t 0 * 1024 + win0_8.xsize (grid0.coords t) 0
              rw [i0, x0, ht]; omega
  | ⟨1, _⟩ => show win0_8.index t 1 * 128 ≤ (i 1 : Nat) ∧ (i 1 : Nat) < win0_8.index t 1 * 128 + win0_8.xsize (grid0.coords t) 1
              rw [i1, x1]; omega

end Cert.FwdIdeal.Hand

end
-- ==== Proof.FwdValue.lean ====
/- The value of the forward call over the extended reals: its result is the formula's closing values, and the arguments are kept. -/
module

public import proofs.«01_k».proof.Proof.FwdFrame
public import proofs.«01_k».proof.Proof.FwdOut

@[expose] public section

set_option maxRecDepth 16384

noncomputable section

namespace Cert.FwdIdeal.Hand

open Idealize.ShloMosaic Idealize.ShloMosaic.TcCoe
open Idealize.SL Idealize.SL.Sem
open Cert.FwdIdeal Cert.FwdIdeal.Gen Cert.FwdMath

variable (m : (ℓ : Loc nD τ sig) → Buf (Elt Ideal) ℓ) (ρ : Dev nD → PrngReg)

theorem flushed_eq (c : Dev nD) (t : Fin cfg0.N) (hf : (cfg0.win 8).flush t = true) :
    (dats m 0 c).flushed 8 t = ((cfg0.win 8).blk t).view.read (Elt Ideal) (outArr m c) := by
  show (cfg0.win 8).cut (grid0.coords t) ((dats m 0 c).after 8 t) = _
  rw [after0_8]
  exact fin_block m c t ((flush0_8 t).mp hf).1 ((flush0_8 t).mp hf).2

theorem final_o (c : Dev nD) : (dats m 0 c).arrAt 8 cfg0.N = outArr m c :=
  (dats m 0 c).arrAt_eq_of_cover 8 (outArr m c) (flushed_eq m c) fun i => by
    obtain ⟨t, h, hi⟩ := fin_cover i
    exact ⟨t, (flush0_8 t).mpr h, hi⟩

/-- The kernel's run over the extended reals: the result is the closing values of the formula, and the arguments are kept. -/
theorem run : θ_run defs (onTc (τ := τ) (main (F := Ideal))) ⟨m, fun _ => 0, ρ⟩ fun r => ∀ c : Dev nD,
      r.2.mem ((c.tc : Thread nD τ).loc main_v0_1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hv : θ_run defs (onTc (τ := τ) (main (F := Ideal))) ⟨m, fun _ => 0, ρ⟩ fun r => ∀ c : Dev nD,
      r.2.mem ((c.tc : Thread nD τ).loc main_v0_1) = outArr m c :=
    (θ_run defs _ _).mono (fun _ h c => (((dats m 0 c).toRForget_arrAt_iff (fgt := forgets0) (w := 8) rfl _ _).mp ((h c).1 8)).trans (final_o m c)) (run_main m ρ)
  refine (θ_run defs _ _).mono (fun r h c => ?_) (θ_run_and hv (frame m ρ))
  exact ⟨h.1 c, h.2.1 c⟩

end Cert.FwdIdeal.Hand

end
-- ==== Proof.FwdBits.lean ====
/- The frame of the first call on bits. The run of `FwdIdeal` is proved for any float values, and the two printed
   programs are the same text: their body tables are equal, and the frame of one is the frame of the other. -/
module

public import proofs.«01_k».proof.Defs
public import proofs.«01_k».proof.Proof.Gen.Fwd
public import proofs.«01_k».proof.Proof.FwdFrame

@[expose] public section

set_option maxRecDepth 16384
set_option maxHeartbeats 1000000

noncomputable section

namespace Cert.Proof

open Idealize.ShloMosaic Idealize.SL.Sem

local instance fwdFacts : Cert.Fwd.Facts := Cert.Fwd.Gen.facts

/-- The two bodies are the same program. -/
theorem fwd_body_eq : @Cert.Fwd.cc0_fwd Bits _ _ = @Cert.FwdIdeal.cc0_fwd Bits _ _ := rfl

/-- So are the two tables of kernel bodies. -/
theorem fwd_defs_eq : Cert.Fwd.defs₀ (F := Bits) = Cert.FwdIdeal.defs₀ (F := Bits) := by
  unfold Cert.Fwd.defs₀ Cert.FwdIdeal.defs₀
  refine congrArg Defs.onTc ?_
  funext l a
  match l, a with
  | 0, (t, s) =>
    show @Cert.Fwd.cc0_fwd Bits _ _ _ _ _ _ _ _ _ _ _ _ _ _ _ _ _ _ _ _ _ _ _ _ _ _ _ _ _ _ _ _ _ _ _ = _
    rw [fwd_body_eq]
    rfl

/-- The first call on bits runs, leaves its arguments as they were and ends quiescent. -/
theorem fwd_frame : quiescent_Fwd (hFwd := Cert.Fwd.Gen.facts) := fun m ρ _ => by
  have h := Cert.FwdIdeal.Hand.frame (F := Bits) m ρ
  unfold Cert.FwdIdeal.defs at h
  rw [← fwd_defs_eq] at h
  exact h

end Cert.Proof

end
-- ==== Proof.FwdRef.lean ====
/- The reference of the forward call over the extended reals: its one block of results is the formula's. -/
module

public import proofs.«01_k».proof.Proof.FwdSpec
public import proofs.«01_k».proof.Proof.Gen.FwdReferenceIdeal.Frame
public import Idealize.ShloMosaic.Lib.Pointwise
public import Idealize.ShloMosaic.Lib.Tactic

@[expose] public section

set_option maxRecDepth 16384

noncomputable section

namespace Cert.FwdReferenceIdeal.Hand

open Idealize.ShloMosaic Idealize.ShloMosaic.TcCoe
open Idealize.SL Idealize.SL.Sem
open Cert.FwdReferenceIdeal Cert.FwdReferenceIdeal.Gen Cert.FwdMath

theorem ofBits_ninf : Ideal.ofBits .f32 0xFF800000#32 = (⊥ : EReal) := by
  simp [Ideal.ofBits, Ideal.ieee]

variable (codes : FVec Ideal S18432x2048 .fp8e4m3) (x : FVec Ideal S18432x2048 .bf16) (rec : FVec Ideal S18432x128 .f32) (w : FVec Ideal S49152x2048 .fp8e4m3)
  (wr : FVec Ideal S49152x2048 .bf16) (s : FVec Ideal S96x1x512 .f32) (s' : FVec Ideal S1x49152 .f32)

theorem ofNat_self (n : ℕ) [NeZero n] (R : Fin n) : Fin.ofNat n R.val = R := Fin.ext (Nat.mod_eq_of_lt R.isLt)

theorem zp_at (hs : ∀ v : Fin 49152, s' (ix2 (0 : Fin 1) v) = s (ix3 (Fin.ofNat 96 (v.val / 512)) (0 : Fin 1) (Fin.ofNat 512 v.val))) (R : Fin 18432) (v : Fin 49152) :
    k0_pay3 (F := Ideal) rec codes w s' (ix2 R v) = zp codes rec w s R.val v.val := by
  unfold zp
  rw [ofNat_self, ofNat_self, ← hs]
  pointwise [k0_pay3]

theorem zq_at (R : Fin 18432) (v : Fin 49152) : k0_pay4 (F := Ideal) x wr (ix2 R v) = zq x wr R.val v.val := by
  unfold zq
  rw [ofNat_self, ofNat_self]
  pointwise [k0_pay4]

variable (R : Fin 18432) (p q : ℕ → EReal)

theorem pay5_at (h : ∀ v : Fin 49152, k0_pay3 (F := Ideal) rec codes w s' (ix2 R v) = p v.val) : k0_pay5 (F := Ideal) rec codes w s' (ix2 R (0 : Fin 1)) = mx p 49152 := by
  generalize e : k0_pay3 (F := Ideal) rec codes w s' = y at h
  pointwise [k0_pay5, e]
  exact fold_mx 49152 _ ofBits_ninf _ p h

theorem pay6_at (h : ∀ v : Fin 49152, k0_pay3 (F := Ideal) rec codes w s' (ix2 R v) = p v.val) (v : Fin 49152) :
    k0_pay6 (F := Ideal) rec codes w s' (ix2 R v) = E (p v.val) (mx p 49152) := by
  have h5 := pay5_at codes rec w s' R p h
  have hv := h v
  generalize e : k0_pay3 (F := Ideal) rec codes w s' = y at hv
  generalize e' : k0_pay5 (F := Ideal) rec codes w s' = y' at h5
  pointwise [k0_pay6, e, e']
  rw [hv, h5]; rfl

theorem pay7_at (h : ∀ v : Fin 49152, k0_pay3 (F := Ideal) rec codes w s' (ix2 R v) = p v.val) :
    k0_pay7 (F := Ideal) rec codes w s' (ix2 R (0 : Fin 1)) = es p (mx p 49152) 49152 := by
  have h6 := pay6_at codes rec w s' R p h
  generalize e : k0_pay6 (F := Ideal) rec codes w s' = y at h6
  pointwise [k0_pay7, e]
  exact sum_fin 49152 _ (fun v => E (p v) (mx p 49152)) h6

theorem addf_log {t : Shape} (a b : FVec Ideal t .f32) (i : t.Idx) : addf a (log b) i = a i + Ideal.log (b i) := rfl

theorem pay8_gen (a b : EReal) (ha : k0_pay5 (F := Ideal) rec codes w s' (ix2 R (0 : Fin 1)) = a) (hb : k0_pay7 (F := Ideal) rec codes w s' (ix2 R (0 : Fin 1)) = b) :
    k0_pay8 (F := Ideal) rec codes w s' (ix2 R (0 : Fin 1)) = a + Ideal.log b := by
  subst ha hb
  unfold k0_pay8
  exact addf_log _ _ _

theorem pay8_at (h : ∀ v : Fin 49152, k0_pay3 (F := Ideal) rec codes w s' (ix2 R v) = p v.val) : k0_pay8 (F := Ideal) rec codes w s' (ix2 R (0 : Fin 1)) = lse p := by
  unfold lse
  exact pay8_gen codes rec w s' R _ _ (pay5_at codes rec w s' R p h) (pay7_at codes rec w s' R p h)

/-- The largest of each row of scores. -/
def mxV (y : FVec Ideal S18432x49152 .f32) : FVec Ideal S18432x1 .f32 :=
  shapeCast S18432x1 (multiReduction .maximumf [1] S18432 y 0xFF800000#32 reduces_S18432x49152_S18432 (.inl rfl) rfl) shapeCasts_S18432_S18432x1

/-- The sum of the exponentials of each row of scores, taken about `z`. -/
def esV (y : FVec Ideal S18432x49152 .f32) (z : FVec Ideal S18432x1 .f32) : FVec Ideal S18432x1 .f32 :=
  shapeCast S18432x1 (multiReduction .add [1] S18432 (exp (subf y (broadcastTo S18432x49152 z broadcasts_S18432x1_S18432x49152))) 0x00000000#32 reduces_S18432x49152_S18432 (.inl rfl) rfl) shapeCasts_S18432_S18432x1

theorem mxV_at (y : FVec Ideal S18432x49152 .f32) (h : ∀ v : Fin 49152, y (ix2 R v) = q v.val) : mxV y (ix2 R (0 : Fin 1)) = mx q 49152 := by
  pointwise [mxV]
  exact fold_mx 49152 _ ofBits_ninf _ q h

theorem esV_at (y : FVec Ideal S18432x49152 .f32) (z : FVec Ideal S18432x1 .f32) (h : ∀ v : Fin 49152, y (ix2 R v) = q v.val) (a : EReal) (hz : z (ix2 R (0 : Fin 1)) = a) :
    esV y z (ix2 R (0 : Fin 1)) = es q a 49152 := by
  pointwise [esV]
  exact sum_fin 49152 _ (fun v => E (q v) a) fun v => by rw [h, hz]; rfl

theorem pay9_eq : k0_pay9 (F := Ideal) x wr = addf (mxV (k0_pay4 (F := Ideal) x wr)) (log (esV (k0_pay4 (F := Ideal) x wr) (mxV (k0_pay4 (F := Ideal) x wr)))) := rfl

theorem pay9_at (h : ∀ v : Fin 49152, k0_pay4 (F := Ideal) x wr (ix2 R v) = q v.val) : k0_pay9 (F := Ideal) x wr (ix2 R (0 : Fin 1)) = lse q := by
  have hm := mxV_at R q _ h
  have he := esV_at R q _ _ h _ hm
  rw [pay9_eq]
  refine (addf_log _ _ _).trans ?_
  rw [hm, he]
  unfold lse
  exact Eq.refl _

theorem pay10_at (h : ∀ v : Fin 49152, k0_pay3 (F := Ideal) rec codes w s' (ix2 R v) = p v.val) (h' : ∀ v : Fin 49152, k0_pay4 (F := Ideal) x wr (ix2 R v) = q v.val) :
    k0_pay10 (F := Ideal) rec codes w s' x wr (ix2 R (0 : Fin 1)) = mean p q := by
  have h6 := pay6_at codes rec w s' R p h
  have h7 := pay7_at codes rec w s' R p h
  generalize e : k0_pay3 (F := Ideal) rec codes w s' = y at h
  generalize e1 : k0_pay4 (F := Ideal) x wr = y1 at h'
  generalize e2 : k0_pay6 (F := Ideal) rec codes w s' = y2 at h6
  generalize e3 : k0_pay7 (F := Ideal) rec codes w s' = y3 at h7
  pointwise [k0_pay10, e, e1, e2, e3]
  unfold mean
  rw [h7]
  refine congrArg (fun z => Ideal.div z (es p (mx p 49152) 49152)) (sum_fin 49152 _ (fun v => E (p v) (mx p 49152) * (p v - q v)) fun v => ?_)
  rw [h6, h, h']

theorem pay11_at (v : Fin 49152) : k0_pay11 (F := Ideal) (ix2 R v) = ((v.val : ℝ) : EReal) := by
  pointwise [k0_pay11]
  show (((BitVec.ofNat 32 v.val).toInt : ℝ) : EReal) = _
  have hn := v.isLt
  rw [BitVec.toInt_eq_toNat_of_lt (by rw [BitVec.toNat_ofNat]; omega), BitVec.toNat_ofNat, Nat.mod_eq_of_lt (by omega), Int.cast_natCast]

end Cert.FwdReferenceIdeal.Hand

end
-- ==== Proof.FwdRefRow.lean ====
/- The reference's packing of a row's closing values into the lanes of its result. -/
module

public import proofs.«01_k».proof.Proof.FwdSpec
public import proofs.«01_k».proof.Proof.Gen.FwdReferenceIdeal.Frame
public import Idealize.ShloMosaic.Lib.Pointwise
public import Idealize.ShloMosaic.Lib.Tactic

@[expose] public section

set_option maxRecDepth 16384

noncomputable section

namespace Cert.FwdReferenceIdeal.Hand

open Idealize.ShloMosaic Idealize.ShloMosaic.TcCoe
open Idealize.SL Idealize.SL.Sem
open Cert.FwdReferenceIdeal Cert.FwdReferenceIdeal.Gen Cert.FwdMath

theorem pay12_gen (R : Fin 18432) (v2 v3 : FVec Ideal S18432x1 .f32) (v12 v15 v40 : FVec Ideal S18432x49152 .f32) (v24 v33 v38 : FVec Ideal S18432x1 .f32) (A B : EReal)
    (hA : ∑ v : Fin 49152, Scalar.select (Ideal.cmp .oeq (v2 (ix2 R (0 : Fin 1))) (v40 (ix2 R v))) (v12 (ix2 R v)) (0 : EReal) = A)
    (hB : ∑ v : Fin 49152, Scalar.select (Ideal.cmp .oeq (v2 (ix2 R (0 : Fin 1))) (v40 (ix2 R v))) (v15 (ix2 R v)) (0 : EReal) = B) (l : Fin 128) :
    k0_pay12 (F := Ideal) v2 v3 v12 v15 v24 v33 v38 v40 (ix2 R l)
      = pack (A - v24 (ix2 R (0 : Fin 1))) (B - v33 (ix2 R (0 : Fin 1)))
          (v38 (ix2 R (0 : Fin 1)) - v24 (ix2 R (0 : Fin 1)) + v33 (ix2 R (0 : Fin 1))) (v24 (ix2 R (0 : Fin 1)))
          (v3 (ix2 R (0 : Fin 1)) - Ideal.ofBits .f32 0x3E4CCCCD#32 * v38 (ix2 R (0 : Fin 1))) l := by
  subst hA hB
  pointwise [k0_pay12, pack]

theorem sum_hit (tg : EReal) (x : ℕ → EReal) (y n : Fin 49152 → EReal) (h : ∀ v, y v = x v.val) (hn : ∀ v, n v = ((v.val : ℝ) : EReal)) :
    ∑ v : Fin 49152, Scalar.select (Ideal.cmp .oeq tg (n v)) (y v) (0 : EReal) = score tg x := by
  unfold score
  refine sum_fin 49152 _ (hit tg x) fun v => ?_
  rw [h, hn]; rfl

end Cert.FwdReferenceIdeal.Hand

end
-- ==== Proof.FwdRefRun.lean ====
/- The reference of the forward call over the extended reals, run: its result is the formula's closing values. -/
module

public import proofs.«01_k».proof.Proof.FwdRef
public import proofs.«01_k».proof.Proof.FwdRefRow
public import Idealize.ShloMosaic.Lib.ValueLayout
public import Idealize.ShloMosaic.Lib.Pipeline.Value

@[expose] public section

set_option maxRecDepth 16384

noncomputable section

namespace Cert.FwdReferenceIdeal.Hand

open Idealize.ShloMosaic Idealize.ShloMosaic.TcCoe
open Idealize.SL Idealize.SL.Sem
open Cert.FwdReferenceIdeal Cert.FwdReferenceIdeal.Gen Cert.FwdMath

theorem pay1_at (rec : FVec Ideal S18432x128 .f32) (R : Fin 18432) : k0_pay1 (F := Ideal) rec (ix2 R (0 : Fin 1)) = rec (ix2 R (1 : Fin 128)) := by
  pointwise [k0_pay1]

theorem pay2_at (rec : FVec Ideal S18432x128 .f32) (R : Fin 18432) : k0_pay2 (F := Ideal) rec (ix2 R (0 : Fin 1)) = rec (ix2 R (2 : Fin 128)) := by
  pointwise [k0_pay2]

/-- The stored block, at row `R` and lane `l`, is the row's closing values. -/
theorem row_at (codes : FVec Ideal S18432x2048 .fp8e4m3) (x : FVec Ideal S18432x2048 .bf16) (rec : FVec Ideal S18432x128 .f32) (w : FVec Ideal S49152x2048 .fp8e4m3)
    (wr : FVec Ideal S49152x2048 .bf16) (s' : FVec Ideal S1x49152 .f32) (p q : ℕ → EReal) (R : Fin 18432)
    (h : ∀ v : Fin 49152, k0_pay3 (F := Ideal) rec codes w s' (ix2 R v) = p v.val) (h' : ∀ v : Fin 49152, k0_pay4 (F := Ideal) x wr (ix2 R v) = q v.val) (l : Fin 128) :
    k0_pay12 (F := Ideal) (k0_pay1 rec) (k0_pay2 rec) (k0_pay3 rec codes w s') (k0_pay4 x wr) (k0_pay8 rec codes w s') (k0_pay9 x wr) (k0_pay10 rec codes w s' x wr) k0_pay11 (ix2 R l)
      = rowOut p q (rec (ix2 R (1 : Fin 128))) (rec (ix2 R (2 : Fin 128))) l := by
  have h1 := pay1_at rec R
  have h2 := pay2_at rec R
  have h8 := pay8_at codes rec w s' R p h
  have h9 := pay9_at x wr R q h'
  have h10 := pay10_at codes x rec w wr s' R p q h h'
  have h11 := pay11_at R
  have e := pay12_gen R (k0_pay1 rec) (k0_pay2 rec) (k0_pay3 rec codes w s') (k0_pay4 x wr) k0_pay11 (k0_pay8 rec codes w s') (k0_pay9 x wr) (k0_pay10 rec codes w s' x wr)
    (score (k0_pay1 (F := Ideal) rec (ix2 R (0 : Fin 1))) p) (score (k0_pay1 (F := Ideal) rec (ix2 R (0 : Fin 1))) q)
    (sum_hit _ p _ _ h h11) (sum_hit _ q _ _ h' h11) l
  rw [h1, h2, h8, h9, h10] at e
  exact e

theorem out_eq (x0 : Vec Ideal S18432x2048 .fp8e4m3) (x1 : Vec Ideal S18432x2048 .bf16) (x2 : Vec Ideal S18432x128 .f32) (x3 : Vec Ideal S49152x2048 .fp8e4m3) (x4 : Vec Ideal S49152x2048 .bf16) (x5 : Vec Ideal S1x49152 .f32) :
    out0_6 (F := Ideal) x0 x1 x2 x3 x4 x5 = k0_pay12 (k0_pay1 x2) (k0_pay2 x2) (k0_pay3 x2 x0 x3 x5) (k0_pay4 x1 x4) (k0_pay8 x2 x0 x3 x5) (k0_pay9 x1 x4) (k0_pay10 x2 x0 x3 x5 x1 x4) k0_pay11 := by
  have hz0 : (![0, 0] : Fin S18432x128.rank → Nat) = fun _ => 0 := funext fun a => by fin_cases a <;> rfl
  have hz1 : (![0, 0] : Fin S18432x2048.rank → Nat) = fun _ => 0 := funext fun a => by fin_cases a <;> rfl
  have hz2 : (![0, 0] : Fin S49152x2048.rank → Nat) = fun _ => 0 := funext fun a => by fin_cases a <;> rfl
  have hz3 : (![0, 0] : Fin S1x49152.rank → Nat) = fun _ => 0 := funext fun a => by fin_cases a <;> rfl
  unfold out0_6
  rw [View.canon_unit_zero hz0]
  simp only [View.ld_unit_zero (S := S18432x128) hz0, View.ld_unit_zero (S := S18432x2048) hz1, View.ld_unit_zero (S := S49152x2048) hz2, View.ld_unit_zero (S := S1x49152) hz3]

variable (m : (ℓ : Loc nD τ sig) → Buf (Elt Ideal) ℓ) (ρ : Dev nD → PrngReg)

abbrev codesArg (c : Dev nD) : FVec Ideal S18432x2048 .fp8e4m3 := m (c.tc.loc main_arg0)
abbrev xArg (c : Dev nD) : FVec Ideal S18432x2048 .bf16 := m (c.tc.loc main_arg1)
abbrev recArg (c : Dev nD) : FVec Ideal S18432x128 .f32 := m (c.tc.loc main_arg2)
abbrev wArg (c : Dev nD) : FVec Ideal S49152x2048 .fp8e4m3 := m (c.tc.loc main_arg3)
abbrev wrArg (c : Dev nD) : FVec Ideal S49152x2048 .bf16 := m (c.tc.loc main_arg4)
abbrev sArg (c : Dev nD) : FVec Ideal S96x1x512 .f32 := m (c.tc.loc main_arg5)

theorem V_v0 (c : Dev nD) : V m c main_v0 = (shapeCast S1x49152 (sArg m c) shapeCasts_S96x1x512_S1x49152 : FVec Ideal S1x49152 .f32) := by
  show StableHlo.after hostOps0 _ (Proc.devRef .tc main_v0) = _
  after_results
  rfl

theorem scale_at (s : FVec Ideal S96x1x512 .f32) (v : Fin 49152) :
    (shapeCast S1x49152 s shapeCasts_S96x1x512_S1x49152 : FVec Ideal S1x49152 .f32) (ix2 (0 : Fin 1) v) = s (ix3 (Fin.ofNat 96 (v.val / 512)) (0 : Fin 1) (Fin.ofNat 512 v.val)) := by
  have hv := v.isLt
  refine shapeCast_apply s shapeCasts_S96x1x512_S1x49152 _ _ ?_
  rw [Shape.rowMajor_val_three, Shape.rowMajor_val_two]
  show ((v.val / 512 % 96 * 1 + 0) * 512 + v.val % 512) = 0 * 49152 + v.val
  omega

theorem blk_0 (c : Dev nD) (t : Fin cfg0.N) : iblk m c 0 t = codesArg m c := by
  have hz : (fun a => (win0_0.index t) a * main_arg0.ty.shape.size a) = fun _ => 0 := funext fun a => by fin_cases a <;> (revert t; decide)
  unfold iblk
  refine (Memref.read_access_unit_zero (Elt Ideal) main_arg0 hz (fun a => by fin_cases a <;> (revert t; decide)) _).trans ?_
  exact V_main_arg0 m c

theorem blk_1 (c : Dev nD) (t : Fin cfg0.N) : iblk m c 1 t = xArg m c := by
  have hz : (fun a => (win0_1.index t) a * main_arg1.ty.shape.size a) = fun _ => 0 := funext fun a => by fin_cases a <;> (revert t; decide)
  unfold iblk
  refine (Memref.read_access_unit_zero (Elt Ideal) main_arg1 hz (fun a => by fin_cases a <;> (revert t; decide)) _).trans ?_
  exact V_main_arg1 m c

theorem blk_2 (c : Dev nD) (t : Fin cfg0.N) : iblk m c 2 t = recArg m c := by
  have hz : (fun a => (win0_2.index t) a * main_arg2.ty.shape.size a) = fun _ => 0 := funext fun a => by fin_cases a <;> (revert t; decide)
  unfold iblk
  refine (Memref.read_access_unit_zero (Elt Ideal) main_arg2 hz (fun a => by fin_cases a <;> (revert t; decide)) _).trans ?_
  exact V_main_arg2 m c

theorem blk_3 (c : Dev nD) (t : Fin cfg0.N) : iblk m c 3 t = wArg m c := by
  have hz : (fun a => (win0_3.index t) a * main_arg3.ty.shape.size a) = fun _ => 0 := funext fun a => by fin_cases a <;> (revert t; decide)
  unfold iblk
  refine (Memref.read_access_unit_zero (Elt Ideal) main_arg3 hz (fun a => by fin_cases a <;> (revert t; decide)) _).trans ?_
  exact V_main_arg3 m c

theorem blk_4 (c : Dev nD) (t : Fin cfg0.N) : iblk m c 4 t = wrArg m c := by
  have hz : (fun a => (win0_4.index t) a * main_arg4.ty.shape.size a) = fun _ => 0 := funext fun a => by fin_cases a <;> (revert t; decide)
  unfold iblk
  refine (Memref.read_access_unit_zero (Elt Ideal) main_arg4 hz (fun a => by fin_cases a <;> (revert t; decide)) _).trans ?_
  exact V_main_arg4 m c

theorem blk_5 (c : Dev nD) (t : Fin cfg0.N) : iblk m c 5 t = (shapeCast S1x49152 (sArg m c) shapeCasts_S96x1x512_S1x49152 : FVec Ideal S1x49152 .f32) := by
  have hz : (fun a => (win0_5.index t) a * main_v0.ty.shape.size a) = fun _ => 0 := funext fun a => by fin_cases a <;> (revert t; decide)
  unfold iblk
  refine (Memref.read_access_unit_zero (Elt Ideal) main_v0 hz (fun a => by fin_cases a <;> (revert t; decide)) _).trans ?_
  exact V_v0 m c

/-- The reference's result, as one array of the arguments. -/
abbrev outArr (c : Dev nD) : FVec Ideal S18432x128 .f32 := fwdOut (codesArg m c) (xArg m c) (recArg m c) (wArg m c) (wrArg m c) (sArg m c)

theorem row_out (c : Dev nD) (R : Fin 18432) (l : Fin 128) :
    k0_pay12 (F := Ideal) (k0_pay1 (recArg m c)) (k0_pay2 (recArg m c))
        (k0_pay3 (recArg m c) (codesArg m c) (wArg m c) (shapeCast S1x49152 (sArg m c) shapeCasts_S96x1x512_S1x49152))
        (k0_pay4 (xArg m c) (wrArg m c))
        (k0_pay8 (recArg m c) (codesArg m c) (wArg m c) (shapeCast S1x49152 (sArg m c) shapeCasts_S96x1x512_S1x49152))
        (k0_pay9 (xArg m c) (wrArg m c))
        (k0_pay10 (recArg m c) (codesArg m c) (wArg m c) (shapeCast S1x49152 (sArg m c) shapeCasts_S96x1x512_S1x49152) (xArg m c) (wrArg m c)) k0_pay11 (ix2 R l)
      = outArr m c (ix2 R l) := by
  have e := row_at (codesArg m c) (xArg m c) (recArg m c) (wArg m c) (wrArg m c) (shapeCast S1x49152 (sArg m c) shapeCasts_S96x1x512_S1x49152)
    (zp (codesArg m c) (recArg m c) (wArg m c) (sArg m c) R.val) (zq (xArg m c) (wrArg m c) R.val) R
    (fun v => zp_at _ _ _ (sArg m c) _ (scale_at _) R v) (fun v => zq_at _ _ R v) l
  refine e.trans ?_
  have hR := ofNat_self 18432 R
  show _ = rowOut (zp (codesArg m c) (recArg m c) (wArg m c) (sArg m c) R.val) (zq (xArg m c) (wrArg m c) R.val)
    (recArg m c (ix2 (Fin.ofNat 18432 R.val) (1 : Fin 128))) (recArg m c (ix2 (Fin.ofNat 18432 R.val) (2 : Fin 128))) l
  rw [hR]

theorem after_out (c : Dev nD) (t : Fin cfg0.N) : (dats m 0 c).after 6 t = outArr m c := by
  rw [after0_6, blk_0, blk_1, blk_2, blk_3, blk_4, blk_5, out_eq]
  funext i
  have hi : i = ix2 (i 0) (i 1) := by
    funext a; match a with
    | ⟨0, _⟩ => rfl
    | ⟨1, _⟩ => rfl
  rw [hi]
  exact row_out m c (i 0) (i 1)

theorem final_o (c : Dev nD) : (dats m 0 c).arrAt 6 cfg0.N = outArr m c := by
  have hz (t : Fin cfg0.N) : (fun a => (win0_6.index t) a * main_v1.ty.shape.size a) = fun _ => 0 := funext fun a => by fin_cases a <;> (revert t; decide)
  have hr (t : Fin cfg0.N) := fun f => Memref.read_access_unit_zero (Elt Ideal) main_v1 (hz t) (fun a => by fin_cases a <;> (revert t; decide)) f
  have t₀ : Fin cfg0.N := ⟨0, by decide⟩
  have ho : ((cfg0.win 6).blk t₀).view.read (Elt Ideal) ((dats m 0 c).arrAt 6 cfg0.N) = (dats m 0 c).flushed 6 t₀ := by
    have ht : cfg0.N = t₀.val + 1 := by have := t₀.isLt; have e : cfg0.N = 1 := by decide
                                        omega
    rw [ht, (dats m 0 c).arrAt_succ 6 t₀, flush0_6, if_pos rfl]
    exact View.read_write_univ _ _
  refine ((hr t₀ _).symm.trans ho).trans ?_
  show (cfg0.win 6).cut _ ((dats m 0 c).after 6 t₀) = _
  rw [after_out]
  rfl

/-- The reference's run over the extended reals: the result is the closing values of the formula, and the arguments are kept. -/
theorem run : θ_run defs (onTc (τ := τ) (main (F := Ideal))) ⟨m, fun _ => 0, ρ⟩ fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hv : θ_run defs (onTc (τ := τ) (main (F := Ideal))) ⟨m, fun _ => 0, ρ⟩ fun r => ∀ c : Dev nD,
      r.2.mem ((c.tc : Thread nD τ).loc main_v1) = outArr m c :=
    (θ_run defs _ _).mono (fun _ h c => ((h c).1 6).trans (final_o m c)) (run_main m ρ)
  refine (θ_run defs _ _).mono (fun r h c => ?_) (θ_run_and hv (frame_of m ρ (dats m) (A_eq m) (run_main m ρ)))
  exact ⟨h.1 c, h.2 c⟩

end Cert.FwdReferenceIdeal.Hand

end
-- ==== Proof.lean ====
/- The proof of the claims: the frames, and each call's equality with its reference over the extended reals. -/
module

public import proofs.«01_k».proof.Defs
public import proofs.«01_k».proof.Proof.Gen.Bwd
public import proofs.«01_k».proof.Proof.Gen.BwdReferenceIdeal.Run
public import proofs.«01_k».proof.Proof.Gen.Fwd
public import proofs.«01_k».proof.Proof.Gen.FwdIdeal
public import proofs.«01_k».proof.Proof.Gen.FwdReferenceIdeal.Frame
public import proofs.«01_k».proof.Proof.BwdValue
public import proofs.«01_k».proof.Proof.BwdBits
public import proofs.«01_k».proof.Proof.FwdValue
public import proofs.«01_k».proof.Proof.FwdBits
public import proofs.«01_k».proof.Proof.FwdRefRun
public import Idealize.ShloMosaic.Adequacy
public import Idealize.ShloMosaic.Init

@[expose] public section

noncomputable section

namespace Cert.Proof

open Idealize.ShloMosaic Idealize.SL.Sem

/-- The gradient call and its reference end with the same array. -/
theorem bwd_algebraic : Cert.algebraic_BwdIdeal_BwdReferenceIdeal (hBwdIdeal := Cert.BwdIdeal.Gen.facts) (hBwdReferenceIdeal := Cert.BwdReferenceIdeal.Gen.facts) := by
  intro m g m' g' _ hargs
  refine ⟨fun c => Cert.BwdIdeal.Hand.gradOut (Cert.BwdIdeal.Hand.zArg m c) (Cert.BwdIdeal.Hand.wArg m c) (Cert.BwdIdeal.Hand.recArg m c) (Cert.BwdIdeal.Hand.finArg m c),
    Cert.BwdIdeal.Hand.run m g, ?_⟩
  refine (θ_run _ _ _).mono (fun r h c => ⟨(h c).1.trans ?_, (h c).2⟩) (Cert.BwdReferenceIdeal.Value.run m' g')
  obtain ⟨e0, e1, e2, e3⟩ := hargs c
  rw [e0, e1, e2, e3]
  refine (Cert.BwdReferenceIdeal.Read.val_main_v36_eq _ _ _ _).trans ?_
  funext i
  have hi : i = ix2 (i 0) (i 1) := by
    funext a; match a with
    | ⟨0, _⟩ => rfl
    | ⟨1, _⟩ => rfl
  rw [hi]
  exact Cert.BwdIdeal.Hand.ref_value _ _ _ _ (i 0) (i 1)

/-- The reference's arguments end as they were; it declares no semaphore. -/
theorem bwdReference_frame : Cert.quiescent_BwdReferenceIdeal (hBwdReferenceIdeal := Cert.BwdReferenceIdeal.Gen.facts) := fun m ρ _ =>
  (θ_run _ _ _).mono (fun r h => ⟨fun c => (h c).2, Idealize.ShloMosaic.sem_eq_zero_of_no_sems (by decide) r.2⟩) (Cert.BwdReferenceIdeal.Value.run m ρ)

/-- The first call and its reference end with the same closing values. -/
theorem fwd_algebraic : Cert.algebraic_FwdIdeal_FwdReferenceIdeal (hFwdIdeal := Cert.FwdIdeal.Gen.facts) (hFwdReferenceIdeal := Cert.FwdReferenceIdeal.Gen.facts) := by
  intro m g m' g' _ hargs
  refine ⟨fun c => Cert.FwdIdeal.Hand.outArr m c, Cert.FwdIdeal.Hand.run m g, ?_⟩
  refine (θ_run _ _ _).mono (fun r h c => ⟨(h c).1.trans ?_, (h c).2⟩) (Cert.FwdReferenceIdeal.Hand.run m' g')
  obtain ⟨e0, e1, e2, e3, e4, e5⟩ := hargs c
  unfold Cert.FwdReferenceIdeal.Hand.outArr Cert.FwdReferenceIdeal.Hand.codesArg Cert.FwdReferenceIdeal.Hand.xArg Cert.FwdReferenceIdeal.Hand.recArg
    Cert.FwdReferenceIdeal.Hand.wArg Cert.FwdReferenceIdeal.Hand.wrArg Cert.FwdReferenceIdeal.Hand.sArg
  rw [e0, e1, e2, e3, e4, e5]

/-- All the claims. -/
theorem claim : Cert.Claim := ⟨Cert.Bwd.Gen.facts, Cert.BwdIdeal.Gen.facts, Cert.BwdReferenceIdeal.Gen.facts,
  Cert.Fwd.Gen.facts, Cert.FwdIdeal.Gen.facts, Cert.FwdReferenceIdeal.Gen.facts,
  bwd_frame, fun m ρ _ => Cert.BwdIdeal.Hand.frame m ρ, bwdReference_frame,
  fwd_frame, fun m ρ _ => Cert.FwdIdeal.Hand.frame m ρ, fun m ρ _ => Cert.FwdReferenceIdeal.Gen.frame m ρ,
  trivial, bwd_algebraic, trivial, fwd_algebraic⟩

end Cert.Proof

end
